-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_gate_inputs [hPre_gate_inputs : Cert.Pre_gate_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_gate_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_gate_inputs [hPre_gate_inputs : Cert.Pre_gate_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_gate_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_gate_inputs [hKernelIdeal : Cert.KernelIdeal.Facts] [hPre_gate_inputs : Cert.Pre_gate_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_gate_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_gate_inputs [hReferenceIdeal : Cert.ReferenceIdeal.Facts] [hPre_gate_inputs : Cert.Pre_gate_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_gate_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal_pre_gate_inputs [hKernelIdeal : Cert.KernelIdeal.Facts] [hReferenceIdeal : Cert.ReferenceIdeal.Facts] [hPre_gate_inputs : Cert.Pre_gate_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_gate_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_gate_inputs : Cert.Pre_gate_inputs.Facts),
    quiescent_Kernel (hKernel := hKernel)
    ∧ quiescent_KernelIdeal (hKernelIdeal := hKernelIdeal)
    ∧ quiescent_KernelIdeal_pre_gate_inputs (hKernelIdeal := hKernelIdeal) (hPre_gate_inputs := hPre_gate_inputs)
    ∧ quiescent_ReferenceIdeal (hReferenceIdeal := hReferenceIdeal)
    ∧ quiescent_ReferenceIdeal_pre_gate_inputs (hReferenceIdeal := hReferenceIdeal) (hPre_gate_inputs := hPre_gate_inputs)
    ∧ preserves_Kernel_KernelIdeal
    ∧ algebraic_KernelIdeal_ReferenceIdeal_pre_gate_inputs (hKernelIdeal := hKernelIdeal) (hReferenceIdeal := hReferenceIdeal) (hPre_gate_inputs := hPre_gate_inputs)
-- ==== Pre_gate_inputs.lean ====
abbrev S2x2048x768 : Shape := ⟨3, ![2, 2048, 768]⟩
abbrev S2 : Shape := ⟨1, ![2]⟩
abbrev S16x768 : Shape := ⟨2, ![16, 768]⟩
abbrev S1536x8 : Shape := ⟨2, ![1536, 8]⟩
abbrev S8 : Shape := ⟨1, ![8]⟩
abbrev S8x768x768 : Shape := ⟨3, ![8, 768, 768]⟩
abbrev S8x768 : Shape := ⟨2, ![8, 768]⟩
abbrev S768x768 : Shape := ⟨2, ![768, 768]⟩
abbrev S768 : Shape := ⟨1, ![768]⟩
abbrev S_ : Shape := ⟨0, ![]⟩

class Facts : Prop where
  bcast_S_S2 : S_.BroadcastsInDim S2 (![] : Fin 0 → Fin S2.rank)
  reducesTo_S2_S_d0 : S2.ReducesTo [0] S_
  h_S_ : 0 < S_.numel
  bcast_S_S2x2048x768 : S_.BroadcastsInDim S2x2048x768 (![] : Fin 0 → Fin S2x2048x768.rank)
  reducesTo_S2x2048x768_S_d0_1_2 : S2x2048x768.ReducesTo [0, 1, 2] S_
  bcast_S_S16x768 : S_.BroadcastsInDim S16x768 (![] : Fin 0 → Fin S16x768.rank)
  reducesTo_S16x768_S_d0_1 : S16x768.ReducesTo [0, 1] S_
  bcast_S_S1536x8 : S_.BroadcastsInDim S1536x8 (![] : Fin 0 → Fin S1536x8.rank)
  reducesTo_S1536x8_S_d0_1 : S1536x8.ReducesTo [0, 1] S_
  bcast_S_S8 : S_.BroadcastsInDim S8 (![] : Fin 0 → Fin S8.rank)
  reducesTo_S8_S_d0 : S8.ReducesTo [0] S_

variable [Facts]

def fn_part2 {F : FTy → Type} [FloatOps F] (main_v26 : IVec S_ 1) (main_v32 : IVec S_ 1) : IVec S_ 1 :=
  let main_v33 : IVec S_ 1 := andi main_v26 main_v32
  main_v33

def fn_part1 {F : FTy → Type} [FloatOps F] (main_arg2 : FVec F S16x768 .f32) (main_arg3 : FVec F S1536x8 .f32) (main_arg4 : FVec F S8 .f32) (main_v12 : IVec S_ 1) (main_v14 : IVec S16x768 1) (main_v15 : FVec F S16x768 .f32) : IVec S_ 1 :=
  let main_v16 : IVec S16x768 1 := cmpf .olt main_arg2 main_v15
  let main_v17 : IVec S16x768 1 := andi main_v14 main_v16
  let main_c_6 : IVec S_ 1 := constantI S_ 1 1#1
  let main_v18 : IVec S_ 1 := (fun x v => Host.reduce IntOp.andi x v reducesTo_S16x768_S_d0_1 h_S_) main_v17 main_c_6
  let main_v19 : IVec S_ 1 := andi main_v12 main_v18
  let main_cst_7 : FVec F S_ .f32 := constant S_ .f32 0xFF800000#32
  let main_v20 : FVec F S1536x8 .f32 := broadcastInDim S1536x8 ![] bcast_S_S1536x8 main_cst_7
  let main_v21 : IVec S1536x8 1 := cmpf .ogt main_arg3 main_v20
  let main_cst_8 : FVec F S_ .f32 := constant S_ .f32 0x7F800000#32
  let main_v22 : FVec F S1536x8 .f32 := broadcastInDim S1536x8 ![] bcast_S_S1536x8 main_cst_8
  let main_v23 : IVec S1536x8 1 := cmpf .olt main_arg3 main_v22
  let main_v24 : IVec S1536x8 1 := andi main_v21 main_v23
  let main_c_9 : IVec S_ 1 := constantI S_ 1 1#1
  let main_v25 : IVec S_ 1 := (fun x v => Host.reduce IntOp.andi x v reducesTo_S1536x8_S_d0_1 h_S_) main_v24 main_c_9
  let main_v26 : IVec S_ 1 := andi main_v19 main_v25
  let main_cst_10 : FVec F S_ .f32 := constant S_ .f32 0xFF800000#32
  let main_v27 : FVec F S8 .f32 := broadcastInDim S8 ![] bcast_S_S8 main_cst_10
  let main_v28 : IVec S8 1 := cmpf .ogt main_arg4 main_v27
  let main_cst_11 : FVec F S_ .f32 := constant S_ .f32 0x7F800000#32
  let main_v29 : FVec F S8 .f32 := broadcastInDim S8 ![] bcast_S_S8 main_cst_11
  let main_v30 : IVec S8 1 := cmpf .olt main_arg4 main_v29
  let main_v31 : IVec S8 1 := andi main_v28 main_v30
  let main_c_12 : IVec S_ 1 := constantI S_ 1 1#1
  let main_v32 : IVec S_ 1 := (fun x v => Host.reduce IntOp.andi x v reducesTo_S8_S_d0 h_S_) main_v31 main_c_12
  fn_part2 (F := F) main_v26 main_v32

def fn {F : FTy → Type} [FloatOps F] (main_arg0 : FVec F S2x2048x768 .f32) (main_arg1 : IVec S2 32) (main_arg2 : FVec F S16x768 .f32) (main_arg3 : FVec F S1536x8 .f32) (main_arg4 : FVec F S8 .f32) (main_arg5 : FVec F S8x768x768 .f32) (main_arg6 : FVec F S8x768 .f32) (main_arg7 : FVec F S768x768 .f32) (main_arg8 : FVec F S768 .f32) : IVec S_ 1 :=
  let main_c : IVec S_ 32 := constantI S_ 32 0#32
  let main_v0 : IVec S2 32 := broadcastInDim S2 ![] bcast_S_S2 main_c
  let main_v1 : IVec S2 1 := cmpi .sge main_arg1 main_v0
  let main_c_0 : IVec S_ 32 := constantI S_ 32 16#32
  let main_v2 : IVec S2 32 := broadcastInDim S2 ![] bcast_S_S2 main_c_0
  let main_v3 : IVec S2 1 := cmpi .slt main_arg1 main_v2
  let main_v4 : IVec S2 1 := andi main_v1 main_v3
  let main_c_1 : IVec S_ 1 := constantI S_ 1 1#1
  let main_v5 : IVec S_ 1 := (fun x v => Host.reduce IntOp.andi x v reducesTo_S2_S_d0 h_S_) main_v4 main_c_1
  let main_cst : FVec F S_ .f32 := constant S_ .f32 0xFF800000#32
  let main_v6 : FVec F S2x2048x768 .f32 := broadcastInDim S2x2048x768 ![] bcast_S_S2x2048x768 main_cst
  let main_v7 : IVec S2x2048x768 1 := cmpf .ogt main_arg0 main_v6
  let main_cst_2 : FVec F S_ .f32 := constant S_ .f32 0x7F800000#32
  let main_v8 : FVec F S2x2048x768 .f32 := broadcastInDim S2x2048x768 ![] bcast_S_S2x2048x768 main_cst_2
  let main_v9 : IVec S2x2048x768 1 := cmpf .olt main_arg0 main_v8
  let main_v10 : IVec S2x2048x768 1 := andi main_v7 main_v9
  let main_c_3 : IVec S_ 1 := constantI S_ 1 1#1
  let main_v11 : IVec S_ 1 := (fun x v => Host.reduce IntOp.andi x v reducesTo_S2x2048x768_S_d0_1_2 h_S_) main_v10 main_c_3
  let main_v12 : IVec S_ 1 := andi main_v5 main_v11
  let main_cst_4 : FVec F S_ .f32 := constant S_ .f32 0xFF800000#32
  let main_v13 : FVec F S16x768 .f32 := broadcastInDim S16x768 ![] bcast_S_S16x768 main_cst_4
  let main_v14 : IVec S16x768 1 := cmpf .ogt main_arg2 main_v13
  let main_cst_5 : FVec F S_ .f32 := constant S_ .f32 0x7F800000#32
  let main_v15 : FVec F S16x768 .f32 := broadcastInDim S16x768 ![] bcast_S_S16x768 main_cst_5
  fn_part1 (F := F) main_arg2 main_arg3 main_arg4 main_v12 main_v14 main_v15
-- ==== Kernel.lean ====
abbrev S2x2048x768 : Shape := ⟨3, ![2, 2048, 768]⟩
abbrev S2 : Shape := ⟨1, ![2]⟩
abbrev S16x768 : Shape := ⟨2, ![16, 768]⟩
abbrev S1536x8 : Shape := ⟨2, ![1536, 8]⟩
abbrev S8 : Shape := ⟨1, ![8]⟩
abbrev S8x768x768 : Shape := ⟨3, ![8, 768, 768]⟩
abbrev S8x768 : Shape := ⟨2, ![8, 768]⟩
abbrev S768x768 : Shape := ⟨2, ![768, 768]⟩
abbrev S768 : Shape := ⟨1, ![768]⟩
abbrev S4096x768 : Shape := ⟨2, ![4096, 768]⟩
abbrev S1x8 : Shape := ⟨2, ![1, 8]⟩
abbrev S1x768 : Shape := ⟨2, ![1, 768]⟩
abbrev S1024x768 : Shape := ⟨2, ![1024, 768]⟩
abbrev S9x768x768 : Shape := ⟨3, ![9, 768, 768]⟩
abbrev S1x768x768 : Shape := ⟨3, ![1, 768, 768]⟩
abbrev S1 : Shape := ⟨1, ![1]⟩
abbrev S16x1 : Shape := ⟨2, ![16, 1]⟩
abbrev S768x8 : Shape := ⟨2, ![768, 8]⟩
abbrev S1024x8 : Shape := ⟨2, ![1024, 8]⟩
abbrev S1024 : Shape := ⟨1, ![1024]⟩
abbrev S1024x1 : Shape := ⟨2, ![1024, 1]⟩
abbrev S1024x256 : Shape := ⟨2, ![1024, 256]⟩
abbrev S1x768x256 : Shape := ⟨3, ![1, 768, 256]⟩
abbrev S768x256 : Shape := ⟨2, ![768, 256]⟩
abbrev S1x256 : Shape := ⟨2, ![1, 256]⟩
abbrev S256 : Shape := ⟨1, ![256]⟩

abbrev nBuf : Space → Nat
  | .hbm => 13
  | .vmem => 12
  | .smem => 1
  | _ => 0

abbrev bufTy : (tb : Table) → Fin (tcTables nBuf tb) → BufTy
  | .hbm, ⟨0, _⟩ => ⟨S2x2048x768, .f32⟩
  | .hbm, ⟨1, _⟩ => ⟨S16x768, .f32⟩
  | .hbm, ⟨2, _⟩ => ⟨S1536x8, .f32⟩
  | .hbm, ⟨3, _⟩ => ⟨S8, .f32⟩
  | .hbm, ⟨4, _⟩ => ⟨S8x768x768, .f32⟩
  | .hbm, ⟨5, _⟩ => ⟨S8x768, .f32⟩
  | .hbm, ⟨6, _⟩ => ⟨S768x768, .f32⟩
  | .hbm, ⟨7, _⟩ => ⟨S768, .f32⟩
  | .hbm, ⟨8, _⟩ => ⟨S4096x768, .f32⟩
  | .hbm, ⟨9, _⟩ => ⟨S1x8, .f32⟩
  | .hbm, ⟨10, _⟩ => ⟨S1x768, .f32⟩
  | .hbm, ⟨11, _⟩ => ⟨S4096x768, .f32⟩
  | .hbm, ⟨12, _⟩ => ⟨S2x2048x768, .f32⟩
  | .local _ .vmem, ⟨0, _⟩ => ⟨S16x768, .f32⟩
  | .local _ .vmem, ⟨1, _⟩ => ⟨S1536x8, .f32⟩
  | .local _ .vmem, ⟨2, _⟩ => ⟨S1x8, .f32⟩
  | .local _ .vmem, ⟨3, _⟩ => ⟨S1024x768, .f32⟩
  | .local _ .vmem, ⟨4, _⟩ => ⟨S1024x768, .f32⟩
  | .local _ .vmem, ⟨5, _⟩ => ⟨S8x768x768, .f32⟩
  | .local _ .vmem, ⟨6, _⟩ => ⟨S8x768, .f32⟩
  | .local _ .vmem, ⟨7, _⟩ => ⟨S768x768, .f32⟩
  | .local _ .vmem, ⟨8, _⟩ => ⟨S1x768, .f32⟩
  | .local _ .vmem, ⟨9, _⟩ => ⟨S1024x768, .f32⟩
  | .local _ .vmem, ⟨10, _⟩ => ⟨S1024x768, .f32⟩
  | .local _ .vmem, ⟨11, _⟩ => ⟨S9x768x768, .bf16⟩
  | .local _ .smem, ⟨0, _⟩ => ⟨S2, .i32⟩
  | _, _ => ⟨S2x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_v0 : Ref sig .tc := ⟨.hbm, 12, rfl⟩
abbrev main_arg1 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_scratch0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_arg1.idx], fun | 0 => main_arg1.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let c0_i32_2 : BitVec 32 := 0#32
  let v7 : BitVec 1 := Scalar.cmpi .sgt arg0 c0_i32_2
  let v8 : BitVec 32 := Scalar.extui v7
  let c0_i32_3 : BitVec 32 := 0#32
  let v9 : BitVec 1 := Scalar.cmpi .slt arg0 c0_i32_3
  let v10 : BitVec 32 := Scalar.extui v9
  let v11 : BitVec 32 := Scalar.subi v8 v10
  let c2_i32 : BitVec 32 := 2#32
  let c0_i32_4 : BitVec 32 := 0#32
  let v12 : BitVec 1 := Scalar.cmpi .sgt c2_i32 c0_i32_4
  let v13 : BitVec 32 := Scalar.extui v12
  let c0_i32_5 : BitVec 32 := 0#32
  let v14 : BitVec 1 := Scalar.cmpi .slt c2_i32 c0_i32_5
  let v15 : BitVec 32 := Scalar.extui v14
  let v16 : BitVec 32 := Scalar.subi v13 v15
  let v17 : BitVec 1 := Scalar.cmpi .ne v11 v16
  let v18 : BitVec 32 := Scalar.remsi arg0 c2_i32
  let c0_i32_6 : BitVec 32 := 0#32
  let v19 : BitVec 1 := Scalar.cmpi .ne v18 c0_i32_6
  let v20 : BitVec 1 := Scalar.andi v17 v19
  let v6 : BitVec 32 := Scalar.divsi arg0 c2_i32
  let c1_i32 : BitVec 32 := 1#32
  let v21 : BitVec 32 := Scalar.subi v6 c1_i32
  let v22 : BitVec 32 := Scalar.select v20 v21 v6
  let v23 : Index := Scalar.indexCast v22
  ![v23.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S16x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1536x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x768x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S768x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S2x2048x768 : Shape := ⟨3, ![2, 2048, 768]⟩
abbrev S2 : Shape := ⟨1, ![2]⟩
abbrev S16x768 : Shape := ⟨2, ![16, 768]⟩
abbrev S1536x8 : Shape := ⟨2, ![1536, 8]⟩
abbrev S8 : Shape := ⟨1, ![8]⟩
abbrev S8x768x768 : Shape := ⟨3, ![8, 768, 768]⟩
abbrev S8x768 : Shape := ⟨2, ![8, 768]⟩
abbrev S768x768 : Shape := ⟨2, ![768, 768]⟩
abbrev S768 : Shape := ⟨1, ![768]⟩
abbrev S_ : Shape := ⟨0, ![]⟩
abbrev S2x1 : Shape := ⟨2, ![2, 1]⟩
abbrev S1 : Shape := ⟨1, ![1]⟩
abbrev S1x1 : Shape := ⟨2, ![1, 1]⟩
abbrev S2x768 : Shape := ⟨2, ![2, 768]⟩
abbrev S2x1x768 : Shape := ⟨3, ![2, 1, 768]⟩
abbrev S2x2048x1536 : Shape := ⟨3, ![2, 2048, 1536]⟩
abbrev S2x2048x8 : Shape := ⟨3, ![2, 2048, 8]⟩
abbrev S1x1x8 : Shape := ⟨3, ![1, 1, 8]⟩
abbrev S2x2048x2 : Shape := ⟨3, ![2, 2048, 2]⟩
abbrev S2x2048x2x1 : Shape := ⟨4, ![2, 2048, 2, 1]⟩
abbrev S1x1x1x8 : Shape := ⟨4, ![1, 1, 1, 8]⟩
abbrev S2x2048x2x8 : Shape := ⟨4, ![2, 2048, 2, 8]⟩
abbrev S2x2048 : Shape := ⟨2, ![2, 2048]⟩
abbrev S2x2048x1 : Shape := ⟨3, ![2, 2048, 1]⟩
abbrev S2x2048x8x768 : Shape := ⟨4, ![2, 2048, 8, 768]⟩
abbrev S1x1x8x768 : Shape := ⟨4, ![1, 1, 8, 768]⟩
abbrev S2x2048x8x1 : Shape := ⟨4, ![2, 2048, 8, 1]⟩
abbrev S1x1x768 : Shape := ⟨3, ![1, 1, 768]⟩

abbrev nBuf : Space → Nat
  | .hbm => 115
  | .vmem => 0
  | .smem => 0
  | _ => 0

abbrev bufTy : (tb : Table) → Fin (tcTables nBuf tb) → BufTy
  | .hbm, ⟨0, _⟩ => ⟨S2x2048x768, .f32⟩
  | .hbm, ⟨1, _⟩ => ⟨S2, .i32⟩
  | .hbm, ⟨2, _⟩ => ⟨S16x768, .f32⟩
  | .hbm, ⟨3, _⟩ => ⟨S1536x8, .f32⟩
  | .hbm, ⟨4, _⟩ => ⟨S8, .f32⟩
  | .hbm, ⟨5, _⟩ => ⟨S8x768x768, .f32⟩
  | .hbm, ⟨6, _⟩ => ⟨S8x768, .f32⟩
  | .hbm, ⟨7, _⟩ => ⟨S768x768, .f32⟩
  | .hbm, ⟨8, _⟩ => ⟨S768, .f32⟩
  | .hbm, ⟨9, _⟩ => ⟨S_, .i32⟩
  | .hbm, ⟨10, _⟩ => ⟨S2, .i32⟩
  | .hbm, ⟨11, _⟩ => ⟨S2, .i1⟩
  | .hbm, ⟨12, _⟩ => ⟨S_, .i32⟩
  | .hbm, ⟨13, _⟩ => ⟨S2, .i32⟩
  | .hbm, ⟨14, _⟩ => ⟨S2, .i32⟩
  | .hbm, ⟨15, _⟩ => ⟨S2, .i32⟩
  | .hbm, ⟨16, _⟩ => ⟨S2x1, .i32⟩
  | .hbm, ⟨17, _⟩ => ⟨S1, .i32⟩
  | .hbm, ⟨18, _⟩ => ⟨S_, .i32⟩
  | .hbm, ⟨19, _⟩ => ⟨S2x1, .i32⟩
  | .hbm, ⟨20, _⟩ => ⟨S2x1, .i1⟩
  | .hbm, ⟨21, _⟩ => ⟨S1x1, .i32⟩
  | .hbm, ⟨22, _⟩ => ⟨S2x1, .i32⟩
  | .hbm, ⟨23, _⟩ => ⟨S2x1, .i1⟩
  | .hbm, ⟨24, _⟩ => ⟨S2x1, .i1⟩
  | .hbm, ⟨25, _⟩ => ⟨S_, .i1⟩
  | .hbm, ⟨26, _⟩ => ⟨S2, .i1⟩
  | .hbm, ⟨27, _⟩ => ⟨S2x768, .f32⟩
  | .hbm, ⟨28, _⟩ => ⟨S2x768, .i1⟩
  | .hbm, ⟨29, _⟩ => ⟨S_, .f32⟩
  | .hbm, ⟨30, _⟩ => ⟨S2x768, .f32⟩
  | .hbm, ⟨31, _⟩ => ⟨S2x768, .f32⟩
  | .hbm, ⟨32, _⟩ => ⟨S2x1x768, .f32⟩
  | .hbm, ⟨33, _⟩ => ⟨S2x2048x768, .f32⟩
  | .hbm, ⟨34, _⟩ => ⟨S2x2048x1536, .f32⟩
  | .hbm, ⟨35, _⟩ => ⟨S2x2048x8, .f32⟩
  | .hbm, ⟨36, _⟩ => ⟨S1x1x8, .f32⟩
  | .hbm, ⟨37, _⟩ => ⟨S2x2048x8, .f32⟩
  | .hbm, ⟨38, _⟩ => ⟨S2x2048x8, .f32⟩
  | .hbm, ⟨39, _⟩ => ⟨S2x2048x2, .f32⟩
  | .hbm, ⟨40, _⟩ => ⟨S2x2048x2, .i32⟩
  | .hbm, ⟨41, _⟩ => ⟨S2x2048x2x1, .i32⟩
  | .hbm, ⟨42, _⟩ => ⟨S1x1x1x8, .i32⟩
  | .hbm, ⟨43, _⟩ => ⟨S2x2048x2x8, .i32⟩
  | .hbm, ⟨44, _⟩ => ⟨S2x2048x2x8, .i32⟩
  | .hbm, ⟨45, _⟩ => ⟨S2x2048x2x8, .i1⟩
  | .hbm, ⟨46, _⟩ => ⟨S2x2048x2x8, .f32⟩
  | .hbm, ⟨47, _⟩ => ⟨S2x2048x2x1, .f32⟩
  | .hbm, ⟨48, _⟩ => ⟨S2x2048x2x8, .f32⟩
  | .hbm, ⟨49, _⟩ => ⟨S2x2048x2x8, .f32⟩
  | .hbm, ⟨50, _⟩ => ⟨S_, .f32⟩
  | .hbm, ⟨51, _⟩ => ⟨S2x2048x8, .f32⟩
  | .hbm, ⟨52, _⟩ => ⟨S_, .f32⟩
  | .hbm, ⟨53, _⟩ => ⟨S2x2048x8, .f32⟩
  | .hbm, ⟨54, _⟩ => ⟨S_, .f32⟩
  | .hbm, ⟨55, _⟩ => ⟨S2x2048x8, .f32⟩
  | .hbm, ⟨56, _⟩ => ⟨S2x2048x8, .i1⟩
  | .hbm, ⟨57, _⟩ => ⟨S_, .f32⟩
  | .hbm, ⟨58, _⟩ => ⟨S_, .f32⟩
  | .hbm, ⟨59, _⟩ => ⟨S2x2048x8, .f32⟩
  | .hbm, ⟨60, _⟩ => ⟨S2x2048x8, .f32⟩
  | .hbm, ⟨61, _⟩ => ⟨S_, .f32⟩
  | .hbm, ⟨62, _⟩ => ⟨S2x2048, .f32⟩
  | .hbm, ⟨63, _⟩ => ⟨S_, .f32⟩
  | .hbm, ⟨64, _⟩ => ⟨S2x2048, .f32⟩
  | .hbm, ⟨65, _⟩ => ⟨S2x2048, .f32⟩
  | .hbm, ⟨66, _⟩ => ⟨S2x2048x1, .f32⟩
  | .hbm, ⟨67, _⟩ => ⟨S2x2048x8, .f32⟩
  | .hbm, ⟨68, _⟩ => ⟨S2x2048x8, .f32⟩
  | .hbm, ⟨69, _⟩ => ⟨S2x2048x8, .f32⟩
  | .hbm, ⟨70, _⟩ => ⟨S_, .f32⟩
  | .hbm, ⟨71, _⟩ => ⟨S2x2048, .f32⟩
  | .hbm, ⟨72, _⟩ => ⟨S2x2048x1, .f32⟩
  | .hbm, ⟨73, _⟩ => ⟨S2x2048x8, .f32⟩
  | .hbm, ⟨74, _⟩ => ⟨S2x2048x8, .f32⟩
  | .hbm, ⟨75, _⟩ => ⟨S2x2048x8x768, .f32⟩
  | .hbm, ⟨76, _⟩ => ⟨S1x1x8x768, .f32⟩
  | .hbm, ⟨77, _⟩ => ⟨S2x2048x8x768, .f32⟩
  | .hbm, ⟨78, _⟩ => ⟨S2x2048x8x768, .f32⟩
  | .hbm, ⟨79, _⟩ => ⟨S_, .f32⟩
  | .hbm, ⟨80, _⟩ => ⟨S2x2048x8x768, .f32⟩
  | .hbm, ⟨81, _⟩ => ⟨S2x2048x8x768, .f32⟩
  | .hbm, ⟨82, _⟩ => ⟨S2x2048x8x768, .f32⟩
  | .hbm, ⟨83, _⟩ => ⟨S_, .f32⟩
  | .hbm, ⟨84, _⟩ => ⟨S2x2048x8x768, .f32⟩
  | .hbm, ⟨85, _⟩ => ⟨S2x2048x8x768, .f32⟩
  | .hbm, ⟨86, _⟩ => ⟨S2x2048x8x768, .f32⟩
  | .hbm, ⟨87, _⟩ => ⟨S2x2048x8x768, .f32⟩
  | .hbm, ⟨88, _⟩ => ⟨S2x2048x8x1, .f32⟩
  | .hbm, ⟨89, _⟩ => ⟨S2x2048x8x768, .f32⟩
  | .hbm, ⟨90, _⟩ => ⟨S2x2048x8x768, .f32⟩
  | .hbm, ⟨91, _⟩ => ⟨S_, .f32⟩
  | .hbm, ⟨92, _⟩ => ⟨S2x2048x768, .f32⟩
  | .hbm, ⟨93, _⟩ => ⟨S2x2048x768, .f32⟩
  | .hbm, ⟨94, _⟩ => ⟨S1x1x768, .f32⟩
  | .hbm, ⟨95, _⟩ => ⟨S2x2048x768, .f32⟩
  | .hbm, ⟨96, _⟩ => ⟨S2x2048x768, .f32⟩
  | .hbm, ⟨97, _⟩ => ⟨S_, .f32⟩
  | .hbm, ⟨98, _⟩ => ⟨S2x2048x768, .f32⟩
  | .hbm, ⟨99, _⟩ => ⟨S2x2048x768, .f32⟩
  | .hbm, ⟨100, _⟩ => ⟨S2x2048x768, .f32⟩
  | .hbm, ⟨101, _⟩ => ⟨S_, .f32⟩
  | .hbm, ⟨102, _⟩ => ⟨S2x2048x768, .f32⟩
  | .hbm, ⟨103, _⟩ => ⟨S2x2048x768, .f32⟩
  | .hbm, ⟨104, _⟩ => ⟨S2x2048x768, .f32⟩
  | .hbm, ⟨105, _⟩ => ⟨S2x2048x768, .f32⟩
  | .hbm, ⟨106, _⟩ => ⟨S_, .f32⟩
  | .hbm, ⟨107, _⟩ => ⟨S2x2048, .f32⟩
  | .hbm, ⟨108, _⟩ => ⟨S2x2048x1, .f32⟩
  | .hbm, ⟨109, _⟩ => ⟨S_, .f32⟩
  | .hbm, ⟨110, _⟩ => ⟨S2x2048x1, .f32⟩
  | .hbm, ⟨111, _⟩ => ⟨S2x2048x1, .f32⟩
  | .hbm, ⟨112, _⟩ => ⟨S2x2048x768, .f32⟩
  | .hbm, ⟨113, _⟩ => ⟨S2x2048x768, .f32⟩
  | .hbm, ⟨114, _⟩ => ⟨S2x2048x768, .f32⟩
  | _, _ => ⟨S2x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_call0_c : Ref sig .tc := ⟨.hbm, 9, rfl⟩
abbrev main_call0_v0 : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_c_1 : Ref sig .tc := ⟨.hbm, 17, rfl⟩
abbrev main_call0_c_2 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_3 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_call0_cst : Ref sig .tc := ⟨.hbm, 29, rfl⟩
abbrev main_call0_v15 : Ref sig .tc := ⟨.hbm, 30, rfl⟩
abbrev main_v0 : Ref sig .tc := ⟨.hbm, 31, rfl⟩
abbrev main_v1 : Ref sig .tc := ⟨.hbm, 32, rfl⟩
abbrev main_v2 : Ref sig .tc := ⟨.hbm, 33, rfl⟩
abbrev main_v3 : Ref sig .tc := ⟨.hbm, 34, rfl⟩
abbrev main_v4 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_values : Ref sig .tc := ⟨.hbm, 39, rfl⟩
abbrev main_indices : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_v8 : Ref sig .tc := ⟨.hbm, 46, rfl⟩
abbrev main_v9 : Ref sig .tc := ⟨.hbm, 47, rfl⟩
abbrev main_v10 : Ref sig .tc := ⟨.hbm, 48, rfl⟩
abbrev main_v11 : Ref sig .tc := ⟨.hbm, 49, rfl⟩
abbrev main_cst : Ref sig .tc := ⟨.hbm, 50, rfl⟩
abbrev main_v12 : Ref sig .tc := ⟨.hbm, 51, rfl⟩
abbrev main_cst_0 : Ref sig .tc := ⟨.hbm, 52, rfl⟩
abbrev main_v13 : Ref sig .tc := ⟨.hbm, 53, rfl⟩
abbrev main_cst_1 : Ref sig .tc := ⟨.hbm, 54, rfl⟩
abbrev main_v14 : Ref sig .tc := ⟨.hbm, 55, rfl⟩
abbrev main_v15 : Ref sig .tc := ⟨.hbm, 56, rfl⟩
abbrev main_cst_2 : Ref sig .tc := ⟨.hbm, 57, rfl⟩
abbrev main_call2_v0 : Ref sig .tc := ⟨.hbm, 58, rfl⟩
abbrev main_call2_v1 : Ref sig .tc := ⟨.hbm, 59, rfl⟩
abbrev main_v16 : Ref sig .tc := ⟨.hbm, 60, rfl⟩
abbrev main_cst_3 : Ref sig .tc := ⟨.hbm, 61, rfl⟩
abbrev main_v17 : Ref sig .tc := ⟨.hbm, 62, rfl⟩
abbrev main_cst_4 : Ref sig .tc := ⟨.hbm, 63, rfl⟩
abbrev main_v18 : Ref sig .tc := ⟨.hbm, 64, rfl⟩
abbrev main_v19 : Ref sig .tc := ⟨.hbm, 65, rfl⟩
abbrev main_v20 : Ref sig .tc := ⟨.hbm, 66, rfl⟩
abbrev main_v21 : Ref sig .tc := ⟨.hbm, 67, rfl⟩
abbrev main_v22 : Ref sig .tc := ⟨.hbm, 68, rfl⟩
abbrev main_v23 : Ref sig .tc := ⟨.hbm, 69, rfl⟩
abbrev main_cst_5 : Ref sig .tc := ⟨.hbm, 70, rfl⟩
abbrev main_v24 : Ref sig .tc := ⟨.hbm, 71, rfl⟩
abbrev main_v25 : Ref sig .tc := ⟨.hbm, 72, rfl⟩
abbrev main_v26 : Ref sig .tc := ⟨.hbm, 73, rfl⟩
abbrev main_v27 : Ref sig .tc := ⟨.hbm, 74, rfl⟩
abbrev main_v28 : Ref sig .tc := ⟨.hbm, 75, rfl⟩
abbrev main_v29 : Ref sig .tc := ⟨.hbm, 76, rfl⟩
abbrev main_v30 : Ref sig .tc := ⟨.hbm, 77, rfl⟩
abbrev main_v31 : Ref sig .tc := ⟨.hbm, 78, rfl⟩
abbrev main_cst_6 : Ref sig .tc := ⟨.hbm, 79, rfl⟩
abbrev main_v32 : Ref sig .tc := ⟨.hbm, 80, rfl⟩
abbrev main_v33 : Ref sig .tc := ⟨.hbm, 81, rfl⟩
abbrev main_v34 : Ref sig .tc := ⟨.hbm, 82, rfl⟩
abbrev main_cst_7 : Ref sig .tc := ⟨.hbm, 83, rfl⟩
abbrev main_v35 : Ref sig .tc := ⟨.hbm, 84, rfl⟩
abbrev main_v36 : Ref sig .tc := ⟨.hbm, 85, rfl⟩
abbrev main_v37 : Ref sig .tc := ⟨.hbm, 86, rfl⟩
abbrev main_v38 : Ref sig .tc := ⟨.hbm, 87, rfl⟩
abbrev main_v39 : Ref sig .tc := ⟨.hbm, 88, rfl⟩
abbrev main_v40 : Ref sig .tc := ⟨.hbm, 89, rfl⟩
abbrev main_v41 : Ref sig .tc := ⟨.hbm, 90, rfl⟩
abbrev main_cst_8 : Ref sig .tc := ⟨.hbm, 91, rfl⟩
abbrev main_v42 : Ref sig .tc := ⟨.hbm, 92, rfl⟩
abbrev main_v43 : Ref sig .tc := ⟨.hbm, 93, rfl⟩
abbrev main_v44 : Ref sig .tc := ⟨.hbm, 94, rfl⟩
abbrev main_v45 : Ref sig .tc := ⟨.hbm, 95, rfl⟩
abbrev main_v46 : Ref sig .tc := ⟨.hbm, 96, rfl⟩
abbrev main_cst_9 : Ref sig .tc := ⟨.hbm, 97, rfl⟩
abbrev main_v47 : Ref sig .tc := ⟨.hbm, 98, rfl⟩
abbrev main_v48 : Ref sig .tc := ⟨.hbm, 99, rfl⟩
abbrev main_v49 : Ref sig .tc := ⟨.hbm, 100, rfl⟩
abbrev main_cst_10 : Ref sig .tc := ⟨.hbm, 101, rfl⟩
abbrev main_v50 : Ref sig .tc := ⟨.hbm, 102, rfl⟩
abbrev main_v51 : Ref sig .tc := ⟨.hbm, 103, rfl⟩
abbrev main_v52 : Ref sig .tc := ⟨.hbm, 104, rfl⟩
abbrev main_v53 : Ref sig .tc := ⟨.hbm, 105, rfl⟩
abbrev main_cst_11 : Ref sig .tc := ⟨.hbm, 106, rfl⟩
abbrev main_v54 : Ref sig .tc := ⟨.hbm, 107, rfl⟩
abbrev main_v55 : Ref sig .tc := ⟨.hbm, 108, rfl⟩
abbrev main_cst_12 : Ref sig .tc := ⟨.hbm, 109, rfl⟩
abbrev main_v56 : Ref sig .tc := ⟨.hbm, 110, rfl⟩
abbrev main_v57 : Ref sig .tc := ⟨.hbm, 111, rfl⟩
abbrev main_v58 : Ref sig .tc := ⟨.hbm, 112, rfl⟩
abbrev main_v59 : Ref sig .tc := ⟨.hbm, 113, rfl⟩
abbrev main_v60 : Ref sig .tc := ⟨.hbm, 114, rfl⟩

abbrev nD : Nat := 1
abbrev τ : Topo := Topo.v7x

variable {F : FTy → Type} [FloatOps F]
-- ==== Proof.Block.lean ====
module
public import proofs.«01_k».proof.Proof.Gen.KernelIdeal.Frame

/-!
What one run of the kernel body leaves, as a function of the blocks it reads.

The body writes its 1024 × 768 block in three column stripes of 256.  A stripe is a running sum that
starts from zero, adds for each of the eight experts `gate · act (x·W + b)`, and ends with the term of
the expert that every token shares.  Both cases of the body (with and without the staging of the
weights) leave the same function of what the staging buffer then holds.
-/

@[expose] public section

set_option maxRecDepth 16384

noncomputable section

namespace Cert.KernelIdeal.Block

open Cert.KernelIdeal Cert.KernelIdeal.Gen Idealize.ShloMosaic Idealize.ShloMosaic.TcCoe Idealize.SL.Sem

variable {F : FTy → Type} [FloatOps F]

/-- Expert `e`'s staged weights, columns `k` to `k + 256`. -/
def wcol (W : Vec F S9x768x768 .bf16) (e k : ℕ) (h : e < 9 ∧ k + 256 ≤ 768) : Vec F S1x768x256 .bf16 :=
  View.ld W (Rect.unit (s := S9x768x768) ![e, 0, k] S1x768x256.size
    (fun | 0 => h.1 | 1 => le_refl _ | 2 => h.2))

/-- Expert `e`'s bias, columns `k` to `k + 256`. -/
def bcol (b : Vec F S8x768 .f32) (e k : ℕ) (h : e < 8 ∧ k + 256 ≤ 768) : Vec F S1x256 .f32 :=
  View.ld b (Rect.unit (s := S8x768) ![e, k] S1x256.size (fun | 0 => h.1 | 1 => h.2))

/-- The shared expert's bias, columns `k` to `k + 256`. -/
def ucol (b : Vec F S1x768 .f32) (k : ℕ) (h : k + 256 ≤ 768) : Vec F S1x256 .f32 :=
  View.ld b (Rect.unit (s := S1x768) ![0, k] S1x256.size (fun | 0 => le_refl _ | 1 => h))

/-- One expert's rows before the activation: the product with its weights plus its bias. -/
def dense (x : FVec F S1024x768 .bf16) (w : Vec F S1x768x256 .bf16) (b : Vec F S1x256 .f32) :
    FVec F S1024x256 .f32 :=
  addf (matmul dot_S1024x768_S768x256_S1024x256_1_0_0_1_n_n none x
      (shapeCast S768x256 w shapeCasts_S1x768x256_S768x256) (constant S1024x256 .f32 0x00000000#32))
    (broadcastTo S1024x256 (shapeCast S1x256 (shapeCast S256 b shapeCasts_S1x256_S256)
      shapeCasts_S256_S1x256) broadcasts_S1x256_S1024x256)

/-- The activation, in the error-function form the kernel prints. -/
def act (h : FVec F S1024x256 .f32) : FVec F S1024x256 .f32 :=
  mulf (mulf (broadcast S1024x256 (Scalar.ofBits .f32 0x3F000000#32)) h)
    (addf (broadcast S1024x256 (Scalar.ofBits .f32 0x3F800000#32))
      (erf (mulf h (broadcast S1024x256 (Scalar.ofBits .f32 0x3F3504F3#32)))))

/-- One expert's weighted rows. -/
def term (x : FVec F S1024x768 .bf16) (g : FVec F S1024x1 .f32) (w : Vec F S1x768x256 .bf16)
    (b : Vec F S1x256 .f32) : FVec F S1024x256 .f32 :=
  mulf (broadcastTo S1024x256 g broadcasts_S1024x1_S1024x256) (act (dense x w b))

/-- Column `e` of the gates. -/
def gcol (g : FVec F S1024x8 .f32) (e : ℕ) (h : S1024x8.Slices ![0, e] S1024x1) : FVec F S1024x1 .f32 :=
  extractStridedSlice S1024x1 ![0, e] g h

/-- One stripe of the result block. -/
def stripe (x : FVec F S1024x768 .bf16) (g : FVec F S1024x8 .f32) (om : FVec F S1024x1 .f32)
    (W : Vec F S9x768x768 .bf16) (b : Vec F S8x768 .f32) (bu : Vec F S1x768 .f32) (k : ℕ)
    (hk : k + 256 ≤ 768) : FVec F S1024x256 .f32 :=
  addf (addf (addf (addf (addf (addf (addf (addf (addf
    (broadcast S1024x256 (Scalar.ofBits .f32 0x00000000#32))
    (term x (gcol g 0 slices_S1024x8_o0_0_S1024x1) (wcol W 0 k ⟨by decide, hk⟩) (bcol b 0 k ⟨by decide, hk⟩)))
    (term x (gcol g 1 slices_S1024x8_o0_1_S1024x1) (wcol W 1 k ⟨by decide, hk⟩) (bcol b 1 k ⟨by decide, hk⟩)))
    (term x (gcol g 2 slices_S1024x8_o0_2_S1024x1) (wcol W 2 k ⟨by decide, hk⟩) (bcol b 2 k ⟨by decide, hk⟩)))
    (term x (gcol g 3 slices_S1024x8_o0_3_S1024x1) (wcol W 3 k ⟨by decide, hk⟩) (bcol b 3 k ⟨by decide, hk⟩)))
    (term x (gcol g 4 slices_S1024x8_o0_4_S1024x1) (wcol W 4 k ⟨by decide, hk⟩) (bcol b 4 k ⟨by decide, hk⟩)))
    (term x (gcol g 5 slices_S1024x8_o0_5_S1024x1) (wcol W 5 k ⟨by decide, hk⟩) (bcol b 5 k ⟨by decide, hk⟩)))
    (term x (gcol g 6 slices_S1024x8_o0_6_S1024x1) (wcol W 6 k ⟨by decide, hk⟩) (bcol b 6 k ⟨by decide, hk⟩)))
    (term x (gcol g 7 slices_S1024x8_o0_7_S1024x1) (wcol W 7 k ⟨by decide, hk⟩) (bcol b 7 k ⟨by decide, hk⟩)))
    (term x om (wcol W 8 k ⟨by decide, hk⟩) (ucol bu k hk))

/-- The task row the kernel picks out of the table `x0` by the word `t`. -/
def taskRow (t : Elt F .i32) (x0 : Vec F S16x768 .f32) : FVec F S1x768 .f32 :=
  k0_pay6 t (View.ld x0 (Rect.unit (s := S16x768) ![0, 0] S16x768.size inb_S16x768_S16x768_0_0))

/-- The block of tokens, loaded whole. -/
def tok (x3 : Vec F S1024x768 .f32) : Vec F S1024x768 .f32 :=
  View.ld x3 (Rect.unit (s := S1024x768) ![0, 0] S1024x768.size inb_S1024x768_S1024x768_0_0)

/-- The tokens' part of the router's product. -/
def tokPart (x1 : Vec F S1536x8 .f32) (x3 : Vec F S1024x768 .f32) : FVec F S1024x8 .f32 :=
  k0_pay7 (tok x3)
    (View.ld x1 (Rect.unit (s := S1536x8) ![0, 0] S768x8.size inb_S1536x8_S768x8_0_0))

/-- The lower half of the router's weights. -/
def lowW (x1 : Vec F S1536x8 .f32) : Vec F S768x8 .f32 :=
  View.ld x1 (Rect.unit (s := S1536x8) ![768, 0] S768x8.size inb_S1536x8_S768x8_768_0)

/-- The router's bias, loaded whole. -/
def biasG (x2 : Vec F S1x8 .f32) : Vec F S1x8 .f32 :=
  View.ld x2 (Rect.unit (s := S1x8) ![0, 0] S1x8.size inb_S1x8_S1x8_0_0)

/-- The gates of a block of tokens. -/
def gates (t : Elt F .i32) (x0 : Vec F S16x768 .f32) (x1 : Vec F S1536x8 .f32) (x2 : Vec F S1x8 .f32)
    (x3 : Vec F S1024x768 .f32) : FVec F S1024x8 .f32 :=
  k0_pay19 (k0_pay15 (taskRow t x0) (tokPart x1 x3) (lowW x1) (biasG x2))
    (k0_pay16 (taskRow t x0) (tokPart x1 x3) (lowW x1) (biasG x2))
    (k0_pay17 (taskRow t x0) (tokPart x1 x3) (lowW x1) (biasG x2)) k0_pay18

/-- The shared expert's weight for each token of the block. -/
def omega (t : Elt F .i32) (x0 : Vec F S16x768 .f32) (x1 : Vec F S1536x8 .f32) (x2 : Vec F S1x8 .f32)
    (x3 : Vec F S1024x768 .f32) : FVec F S1024x1 .f32 :=
  k0_pay20 (k0_pay14 (taskRow t x0) (tokPart x1 x3) (lowW x1) (biasG x2))

/-- The three stripes, the last written first. -/
def stripes (t : Elt F .i32) (x0 : Vec F S16x768 .f32) (x1 : Vec F S1536x8 .f32) (x2 : Vec F S1x8 .f32)
    (x3 : Vec F S1024x768 .f32) (W : Vec F S9x768x768 .bf16) (x5 : Vec F S8x768 .f32)
    (x7 : Vec F S1x768 .f32) : List (View.Piece (Elt F) S1024x768 .f32) :=
  [⟨Rect.unit ![0, 512] ![1024, 256] inb_S1024x768_S1024x256_0_512,
      stripe (k0_pay3 (tok x3)) (gates t x0 x1 x2 x3) (omega t x0 x1 x2 x3) W x5 x7 512 (by decide)⟩,
   ⟨Rect.unit ![0, 256] ![1024, 256] inb_S1024x768_S1024x256_0_256,
      stripe (k0_pay3 (tok x3)) (gates t x0 x1 x2 x3) (omega t x0 x1 x2 x3) W x5 x7 256 (by decide)⟩,
   ⟨Rect.unit ![0, 0] ![1024, 256] inb_S1024x768_S1024x256_0_0,
      stripe (k0_pay3 (tok x3)) (gates t x0 x1 x2 x3) (omega t x0 x1 x2 x3) W x5 x7 0 (by decide)⟩]

/-- The two casts the first point of a row stages: the experts' weights, then the shared expert's. -/
def staged (x4 : Vec F S8x768x768 .f32) (x6 : Vec F S768x768 .f32) :
    List (View.Piece (Elt F) S9x768x768 .bf16) :=
  [⟨Rect.unit ![8, 0, 0] S1x768x768.size inb_S9x768x768_S1x768x768_8_0_0,
      k0_pay5 (View.ld x6 (Rect.unit (s := S768x768) ![0, 0] S768x768.size inb_S768x768_S768x768_0_0))⟩,
   ⟨Rect.unit ![0, 0, 0] S8x768x768.size inb_S9x768x768_S8x768x768_0_0_0,
      k0_pay4 (View.ld x4 (Rect.unit (s := S8x768x768) ![0, 0, 0] S8x768x768.size inb_S8x768x768_S8x768x768_0_0_0))⟩]

/-- The word of the prefetched table the body reads. -/
def word (c : Dev nD) (i : grid0.Coords) (xt0 : TbBuf0 (F := F) c tbM0_0) : Elt F .i32 :=
  View.readAt (Elt F) tbM0_0.view (Rect.unit (s := S2) (k0_off1 i) S1.size (k0_off1_inb i)).toLoadRect xt0
    (Shape.Idx.first (numel1_S1 ▸ Nat.one_pos))

section Runs

variable (c : Dev nD) (i : grid0.Coords)
  (arg2 : Memref sig .tc .vmem S16x768 .f32) (harg2 : arg2.IsWhole)
  (arg3 : Memref sig .tc .vmem S1536x8 .f32) (harg3 : arg3.IsWhole)
  (arg4 : Memref sig .tc .vmem S1x8 .f32) (harg4 : arg4.IsWhole)
  (arg5 : Memref sig .tc .vmem S1024x768 .f32) (harg5 : arg5.IsWhole)
  (arg6 : Memref sig .tc .vmem S8x768x768 .f32) (harg6 : arg6.IsWhole)
  (arg7 : Memref sig .tc .vmem S8x768 .f32) (harg7 : arg7.IsWhole)
  (arg8 : Memref sig .tc .vmem S768x768 .f32) (harg8 : arg8.IsWhole)
  (arg9 : Memref sig .tc .vmem S1x768 .f32) (harg9 : arg9.IsWhole)
  (arg10 : Memref sig .tc .vmem S1024x768 .f32) (harg10 : arg10.IsWhole)
  (arg11 : Memref sig .tc .vmem S9x768x768 .bf16) (harg11 : arg11.IsWhole)
  (x0 : Vec F S16x768 .f32) (x1 : Vec F S1536x8 .f32) (x2 : Vec F S1x8 .f32)
  (x3 : Vec F S1024x768 .f32) (x4 : Vec F S8x768x768 .f32) (x5 : Vec F S8x768 .f32)
  (x6 : Vec F S768x768 .f32) (x7 : Vec F S1x768 .f32) (xt0 : TbBuf0 (F := F) c tbM0_0)

theorem pieces_B (hc0 : ¬cond0_0 i) (xs0 : Vec F S9x768x768 .bf16) :
    (kernelRun0_B c i arg2 harg2 arg3 harg3 arg4 harg4 arg5 harg5 arg6 harg6 arg7 harg7 arg8 harg8
      arg9 harg9 arg10 harg10 arg11 harg11 hc0 x0 x1 x2 x3 x4 x5 x6 x7 xt0 xs0).1
      = stripes (word c i xt0) x0 x1 x2 x3 xs0 x5 x7 := by
  have h : (kernelRun0_B c i arg2 harg2 arg3 harg3 arg4 harg4 arg5 harg5 arg6 harg6 arg7 harg7 arg8 harg8
      arg9 harg9 arg10 harg10 arg11 harg11 hc0 x0 x1 x2 x3 x4 x5 x6 x7 xt0 xs0).1
      = stripes (word c i xt0) (arg2.view.read (Elt F) (harg2.unread x0))
          (arg3.view.read (Elt F) (harg3.unread x1)) (arg4.view.read (Elt F) (harg4.unread x2))
          (arg5.view.read (Elt F) (harg5.unread x3)) (arg11.view.read (Elt F) (harg11.unread xs0))
          (arg7.view.read (Elt F) (harg7.unread x5)) (arg9.view.read (Elt F) (harg9.unread x7)) := by
    rfl
  rw [h, harg2.read_unread, harg3.read_unread, harg4.read_unread, harg5.read_unread,
    harg11.read_unread, harg7.read_unread, harg9.read_unread]

/-- The weights the first point of a row stages. -/
def stage (x4 : Vec F S8x768x768 .f32) (x6 : Vec F S768x768 .f32) : Vec F S9x768x768 .bf16 :=
  View.canon (staged x4 x6)

/-- The block the body leaves, from the staged weights `W`. -/
def block (t : Elt F .i32) (x0 : Vec F S16x768 .f32) (x1 : Vec F S1536x8 .f32) (x2 : Vec F S1x8 .f32)
    (x3 : Vec F S1024x768 .f32) (W : Vec F S9x768x768 .bf16) (x5 : Vec F S8x768 .f32)
    (x7 : Vec F S1x768 .f32) : Vec F S1024x768 .f32 :=
  View.canon (stripes t x0 x1 x2 x3 W x5 x7)

theorem staged_A (hc0 : cond0_0 i) :
    (kernelRun0_A c i arg2 harg2 arg3 harg3 arg4 harg4 arg5 harg5 arg6 harg6 arg7 harg7 arg8 harg8
      arg9 harg9 arg10 harg10 arg11 harg11 hc0 x0 x1 x2 x3 x4 x5 x6 x7 xt0).2.1 = staged x4 x6 := by
  have h : (kernelRun0_A c i arg2 harg2 arg3 harg3 arg4 harg4 arg5 harg5 arg6 harg6 arg7 harg7 arg8 harg8
      arg9 harg9 arg10 harg10 arg11 harg11 hc0 x0 x1 x2 x3 x4 x5 x6 x7 xt0).2.1
      = staged (arg6.view.read (Elt F) (harg6.unread x4)) (arg8.view.read (Elt F) (harg8.unread x6)) := by
    rfl
  rw [h, harg6.read_unread, harg8.read_unread]

theorem pieces_A (hc0 : cond0_0 i) :
    (kernelRun0_A c i arg2 harg2 arg3 harg3 arg4 harg4 arg5 harg5 arg6 harg6 arg7 harg7 arg8 harg8
      arg9 harg9 arg10 harg10 arg11 harg11 hc0 x0 x1 x2 x3 x4 x5 x6 x7 xt0).1
      = stripes (word c i xt0) x0 x1 x2 x3 (stage x4 x6) x5 x7 := by
  have h : (kernelRun0_A c i arg2 harg2 arg3 harg3 arg4 harg4 arg5 harg5 arg6 harg6 arg7 harg7 arg8 harg8
      arg9 harg9 arg10 harg10 arg11 harg11 hc0 x0 x1 x2 x3 x4 x5 x6 x7 xt0).1
      = stripes (word c i xt0) (arg2.view.read (Elt F) (harg2.unread x0))
          (arg3.view.read (Elt F) (harg3.unread x1)) (arg4.view.read (Elt F) (harg4.unread x2))
          (arg5.view.read (Elt F) (harg5.unread x3))
          (arg11.view.read (Elt F) (arg11.view.writes (Elt F) arg11.view.junk
            (staged (arg6.view.read (Elt F) (harg6.unread x4)) (arg8.view.read (Elt F) (harg8.unread x6)))))
          (arg7.view.read (Elt F) (harg7.unread x5)) (arg9.view.read (Elt F) (harg9.unread x7)) := by
    rfl
  rw [h, harg2.read_unread, harg3.read_unread, harg4.read_unread, harg5.read_unread,
    harg6.read_unread, harg8.read_unread, View.read_writes_junk_eq_canon, harg7.read_unread,
    harg9.read_unread, stage]

theorem out_A (hc0 : cond0_0 i) :
    out0_A_8 c i arg2 harg2 arg3 harg3 arg4 harg4 arg5 harg5 arg6 harg6 arg7 harg7 arg8 harg8
      arg9 harg9 arg10 harg10 arg11 harg11 hc0 x0 x1 x2 x3 x4 x5 x6 x7 xt0
      = block (word c i xt0) x0 x1 x2 x3 (stage x4 x6) x5 x7 := by
  rw [out0_A_8, pieces_A, View.read_writes_junk_eq_canon, block]

theorem sout_A (hc0 : cond0_0 i) :
    sout0_A_0 c i arg2 harg2 arg3 harg3 arg4 harg4 arg5 harg5 arg6 harg6 arg7 harg7 arg8 harg8
      arg9 harg9 arg10 harg10 arg11 harg11 hc0 x0 x1 x2 x3 x4 x5 x6 x7 xt0 = stage x4 x6 := by
  rw [sout0_A_0, staged_A, View.read_writes_junk_eq_canon, stage]

theorem out_B (hc0 : ¬cond0_0 i) (xs0 : Vec F S9x768x768 .bf16) :
    out0_B_8 c i arg2 harg2 arg3 harg3 arg4 harg4 arg5 harg5 arg6 harg6 arg7 harg7 arg8 harg8
      arg9 harg9 arg10 harg10 arg11 harg11 hc0 x0 x1 x2 x3 x4 x5 x6 x7 xt0 xs0
      = block (word c i xt0) x0 x1 x2 x3 xs0 x5 x7 := by
  rw [out0_B_8, pieces_B, View.read_writes_junk_eq_canon, block]

end Runs

end Cert.KernelIdeal.Block

end
-- ==== Proof.KernelRun.lean ====
module
public import proofs.«01_k».proof.Proof.Block
public import Idealize.ShloMosaic.Lib.Pipeline.Value
public import Idealize.ShloMosaic.Lib.Pipeline.ValueKit.Geometry
public import Idealize.ShloMosaic.Lib.StableHlo.Run

/-!
What the kernel's run leaves, point by point.

Only the first grid point stages the weights; every later point reads what that one staged.  So the
block written at point `t` is `Block.block` of the task word, the token block of `t` and the arrays that
every point reads whole.
-/

@[expose] public section

set_option maxRecDepth 16384

noncomputable section

namespace Cert.KernelIdeal.Block

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ) (ρ : Dev nD → PrngReg) (hO : Ok m) (c : Dev nD)

/-- A window that is its whole array reads the array. -/
theorem iblk_0 (t : Fin (cfgM m hO).N) : (iblk m hO c 0 t : Vec F S16x768 .f32) = V m c main_arg2 := by
  funext j
  blk_simp [iblk]
  congr 1
  funext a
  apply Fin.ext
  match a with
  | ⟨0, _⟩ => blk_simp; exact Nat.zero_add _
  | ⟨1, _⟩ => blk_simp; exact Nat.zero_add _

theorem iblk_1 (t : Fin (cfgM m hO).N) : (iblk m hO c 1 t : Vec F S1536x8 .f32) = V m c main_arg3 := by
  funext j
  blk_simp [iblk]
  congr 1
  funext a
  apply Fin.ext
  match a with
  | ⟨0, _⟩ => blk_simp; exact Nat.zero_add _
  | ⟨1, _⟩ => blk_simp; exact Nat.zero_add _

theorem iblk_2 (t : Fin (cfgM m hO).N) : (iblk m hO c 2 t : Vec F S1x8 .f32) = V m c main_call0_v1 := by
  funext j
  blk_simp [iblk]
  congr 1
  funext a
  apply Fin.ext
  match a with
  | ⟨0, _⟩ => blk_simp; rfl
  | ⟨1, _⟩ => blk_simp; exact Nat.zero_add _

theorem iblk_4 (t : Fin (cfgM m hO).N) : (iblk m hO c 4 t : Vec F S8x768x768 .f32) = V m c main_arg5 := by
  funext j
  blk_simp [iblk]
  congr 1
  funext a
  apply Fin.ext
  match a with
  | ⟨0, _⟩ => blk_simp; exact Nat.zero_add _
  | ⟨1, _⟩ => blk_simp; exact Nat.zero_add _
  | ⟨2, _⟩ => blk_simp; exact Nat.zero_add _

theorem iblk_5 (t : Fin (cfgM m hO).N) : (iblk m hO c 5 t : Vec F S8x768 .f32) = V m c main_arg6 := by
  funext j
  blk_simp [iblk]
  congr 1
  funext a
  apply Fin.ext
  match a with
  | ⟨0, _⟩ => blk_simp; exact Nat.zero_add _
  | ⟨1, _⟩ => blk_simp; exact Nat.zero_add _

theorem iblk_6 (t : Fin (cfgM m hO).N) : (iblk m hO c 6 t : Vec F S768x768 .f32) = V m c main_arg7 := by
  funext j
  blk_simp [iblk]
  congr 1
  funext a
  apply Fin.ext
  match a with
  | ⟨0, _⟩ => blk_simp; exact Nat.zero_add _
  | ⟨1, _⟩ => blk_simp; exact Nat.zero_add _

theorem iblk_7 (t : Fin (cfgM m hO).N) : (iblk m hO c 7 t : Vec F S1x768 .f32) = V m c main_call0_v2 := by
  funext j
  blk_simp [iblk]
  congr 1
  funext a
  apply Fin.ext
  match a with
  | ⟨0, _⟩ => blk_simp; rfl
  | ⟨1, _⟩ => blk_simp; exact Nat.zero_add _

/-- The index maps of the two windows that move: block `t` of the rows. -/
theorem tr_3 : ∀ i : grid0.Coords, cc0_transform_3 i = ![(i 0).val, 0] := by decide +kernel
theorem tr_8 : ∀ i : grid0.Coords, cc0_transform_8 i = ![(i 0).val, 0] := by decide +kernel
theorem coords_val : ∀ t : Fin grid0.N, (grid0.coords t 0).val = t.val := by decide +kernel

/-- The token block of point `t`: rows `1024 t` to `1024 t + 1024` of the flattened tokens. -/
theorem iblk_3 (t : Fin (cfgM m hO).N) (j : S1024x768.Idx) (k : S4096x768.Idx)
    (h0 : (k 0).val = t.val * 1024 + (j 0).val) (h1 : (k 1).val = (j 1).val) :
    (iblk m hO c 3 t : Vec F S1024x768 .f32) j = V m c main_call0_v0 k := by
  blk_simp [iblk]
  congr 1
  funext a
  apply Fin.ext
  match a with
  | ⟨0, _⟩ =>
    blk_simp
    rw [show ((cfgM m hO).win 3).index t = cc0_transform_3 (grid0.coords t) from rfl, tr_3]
    show (grid0.coords t 0).val * 1024 + (j 0).val = (k 0).val
    rw [coords_val, h0]
  | ⟨1, _⟩ =>
    blk_simp
    rw [show ((cfgM m hO).win 3).index t = cc0_transform_3 (grid0.coords t) from rfl, tr_3]
    show 0 * 768 + (j 1).val = (k 1).val
    rw [h1]; omega

/-- The block of point `t`, from the arrays the region finds. -/
def pointBlock (t : Fin (cfgM m hO).N) : Vec F S1024x768 .f32 :=
  block (word c (grid0.coords t) (tbl m 0)) (V m c main_arg2) (V m c main_arg3) (V m c main_call0_v1)
    (iblk m hO c 3 t) (stage (V m c main_arg5) (V m c main_arg7)) (V m c main_arg6) (V m c main_call0_v2)

theorem stage_congr {a a' : Vec F S8x768x768 .f32} {b b' : Vec F S768x768 .f32} (ha : a = a') (hb : b = b') :
    stage a b = stage a' b' := by
  subst ha hb; rfl

theorem block_congr {w : Elt F .i32} {x0 y0 : Vec F S16x768 .f32} {x1 y1 : Vec F S1536x8 .f32}
    {x2 y2 : Vec F S1x8 .f32} {x3 : Vec F S1024x768 .f32} {W W' : Vec F S9x768x768 .bf16}
    {x5 y5 : Vec F S8x768 .f32} {x7 y7 : Vec F S1x768 .f32}
    (h0 : x0 = y0) (h1 : x1 = y1) (h2 : x2 = y2) (hW : W = W') (h5 : x5 = y5) (h7 : x7 = y7) :
    block w x0 x1 x2 x3 W x5 x7 = block w y0 y1 y2 x3 W' y5 y7 := by
  subst h0 h1 h2 hW h5 h7; rfl

section Points

attribute [local irreducible] outsAt0 iblk StableHlo.after stage block out0_A_8 out0_B_8 sout0_A_0

/-- After the first point. -/
theorem outsAt_A (t : Fin (cfgM m hO).N) (h0 : t.val % 4 = 0) :
    outsAt0 m hO c t.val t.isLt = (pointBlock m hO c t, stage (V m c main_arg5) (V m c main_arg7)) := by
  refine (outsAt0_A m hO c t h0).trans (Prod.ext ?_ ?_)
  · refine (out_A (F := F) ..).trans ?_
    exact block_congr (iblk_0 m hO c _) (iblk_1 m hO c _) (iblk_2 m hO c _)
        (stage_congr (iblk_4 m hO c _) (iblk_6 m hO c _)) (iblk_5 m hO c _) (iblk_7 m hO c _)
  · exact (sout_A (F := F) ..).trans (stage_congr (iblk_4 m hO c _) (iblk_6 m hO c _))

/-- After a later point, from what the scratch held. -/
theorem outsAt_B (t : Fin (cfgM m hO).N) (h0 : ¬t.val % 4 = 0)
    (ih : (outsAt0 m hO c (t.val - 1) (Nat.lt_of_le_of_lt (Nat.sub_le _ _) t.isLt)).2
      = stage (V m c main_arg5) (V m c main_arg7)) :
    outsAt0 m hO c t.val t.isLt = (pointBlock m hO c t, stage (V m c main_arg5) (V m c main_arg7)) := by
  refine (outsAt0_B m hO c t h0).trans (Prod.ext ?_ ?_)
  · refine (out_B (F := F) ..).trans ?_
    exact block_congr (iblk_0 m hO c _) (iblk_1 m hO c _) (iblk_2 m hO c _)
        ih (iblk_5 m hO c _) (iblk_7 m hO c _)
  · exact ih

/-- After every point the output's buffer holds that point's block and the scratch holds the staged
weights: the first point stages them and no other writes them. -/
theorem outsAt_eq (n : ℕ) (h : n < (cfgM m hO).N) :
    outsAt0 m hO c n h = (pointBlock m hO c ⟨n, h⟩, stage (V m c main_arg5) (V m c main_arg7)) := by
  induction n with
  | zero => exact outsAt_A m hO c ⟨0, h⟩ rfl
  | succ n ih =>
    have hN : (cfgM m hO).N = 4 := N_0
    refine outsAt_B m hO c ⟨n + 1, h⟩ (by dsimp only; omega) ?_
    exact congrArg Prod.snd (ih (Nat.lt_of_succ_lt h))

attribute [local irreducible] pointBlock

/-- The result array holds `G` once every point's block agrees with `G` there. -/
theorem final (G : Buf (Elt F) ((c : Thread nD τ).loc main_call0_v3))
    (hG : ∀ (t : Fin (cfgM m hO).N) (j : S1024x768.Idx) (k : S4096x768.Idx),
      (k 0).val = t.val * 1024 + (j 0).val → (k 1).val = (j 1).val → pointBlock m hO c t j = G k) :
    (dats m hO 0 c).arrAt 8 (cfgM m hO).N = G := by
  refine (dats m hO 0 c).arrAt_eq_of_emb 8 G (fun t hf (y : S1024x768.Idx) => ?_) ?_
  · blk_simp
    rw [after0_8, outsAt_eq]
    refine (hG t y (((cfgM m hO).win 8).blk t |>.view.emb y) ?_ ?_)
    · blk_simp
      rw [show ((cfgM m hO).win 8).index t = cc0_transform_8 (grid0.coords t) from rfl, tr_8]
      show (grid0.coords t 0).val * 1024 + (y 0).val = _
      rw [coords_val]
    · blk_simp
      rw [show ((cfgM m hO).win 8).index t = cc0_transform_8 (grid0.coords t) from rfl, tr_8]
      show 0 * 768 + (y 1).val = _
      omega
  · intro (i : main_call0_v3.ty.Idx)
    have hN : (cfgM m hO).N = 4 := N_0
    have h0 : (i 0 : ℕ) < 4096 := (i 0).isLt
    have h1 : (i 1 : ℕ) < 768 := (i 1).isLt
    have ht : (i 0 : ℕ) / 1024 < (cfgM m hO).N := by omega
    refine ⟨⟨(i 0 : ℕ) / 1024, ht⟩, flush0_8 _ _, ?_⟩
    have hc := coords_val ⟨(i 0 : ℕ) / 1024, ht⟩
    refine (((cfgM m hO).win 8).emb_mem_blk_iff ⟨(i 0 : ℕ) / 1024, ht⟩ i rfl).mpr fun a => ?_
    match a with
    | ⟨0, _⟩ =>
      show cc0_transform_8 (grid0.coords ⟨(i 0 : ℕ) / 1024, ht⟩) 0 * 1024 ≤ (i 0 : ℕ)
        ∧ (i 0 : ℕ) < cc0_transform_8 (grid0.coords ⟨(i 0 : ℕ) / 1024, ht⟩) 0 * 1024 + 1024
      rw [tr_8]
      show (grid0.coords _ 0).val * 1024 ≤ (i 0 : ℕ) ∧ (i 0 : ℕ) < (grid0.coords _ 0).val * 1024 + 1024
      rw [hc]
      dsimp only
      omega
    | ⟨1, _⟩ =>
      show cc0_transform_8 (grid0.coords ⟨(i 0 : ℕ) / 1024, ht⟩) 1 * 768 ≤ (i 1 : ℕ)
        ∧ (i 1 : ℕ) < cc0_transform_8 (grid0.coords ⟨(i 0 : ℕ) / 1024, ht⟩) 1 * 768 + 768
      rw [tr_8]
      show 0 * 768 ≤ (i 1 : ℕ) ∧ (i 1 : ℕ) < 0 * 768 + 768
      omega

end Points

end Cert.KernelIdeal.Block

end
-- ==== Proof.KernelResult.lean ====
module
public import proofs.«01_k».proof.Proof.KernelRun
public import Idealize.ShloMosaic.Lib.Tactic
public import Idealize.ShloMosaic.Lib.Quiescent

/-!
The kernel's run around its one region: the reshapes before it, the reshape after it, and what the
result and the arguments then hold.
-/

@[expose] public section

set_option maxRecDepth 16384

noncomputable section

namespace Cert.KernelIdeal.Block

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ) (ρ : Dev nD → PrngReg) (hO : Ok m) (c : Dev nD)

/-- The flattened tokens the region finds. -/
theorem V_tokens : V m c main_call0_v0
    = shapeCast S4096x768 (m ((c : Thread nD τ).loc main_arg0)) shapeCasts_S2x2048x768_S4096x768 := by
  show StableHlo.after [_, _, _] _ _ = _
  after_results
  rfl

/-- The router's bias as the row the region finds. -/
theorem V_bias : V m c main_call0_v1
    = shapeCast S1x8 (m ((c : Thread nD τ).loc main_arg4)) shapeCasts_S8_S1x8 := by
  show StableHlo.after [_, _, _] _ _ = _
  after_results
  rfl

/-- The shared expert's bias as the row the region finds. -/
theorem V_shared : V m c main_call0_v2
    = shapeCast S1x768 (m ((c : Thread nD τ).loc main_arg8)) shapeCasts_S768_S1x768 := by
  show StableHlo.after [_, _, _] _ _ = _
  after_results
  rfl

/-- The result is the region's output array, reshaped. -/
theorem tail_result : Pipeline.afterTail pcfgs (fun _ => adm m hO) (dats m hO) 0 (V0 m) [hostOps1] c main_v0
    = shapeCast S2x2048x768 ((dats m hO 0 c).arrAt 8 (cfgM m hO).N : FVec F S4096x768 .f32)
        shapeCasts_S4096x768_S2x2048x768 := by
  unfold Pipeline.afterTail
  show StableHlo.after [_] _ _ = _
  after_results
  funext i
  exact congrArg (fun x : FVec F S4096x768 .f32 => shapeCast S2x2048x768 x shapeCasts_S4096x768_S2x2048x768 i)
    (Pipeline.withArrays_arr spec0 (by decide) c (V0 m c)
      (fun w => (dats m hO 0 c).arrAt w (cfgM m hO).N) 8)

/-- The run, read: the result at the reshaped output array `G`, the arguments unchanged. -/
theorem run (G : (c : Dev nD) → FVec F S4096x768 .f32)
    (hG : ∀ c, (dats m hO 0 c).arrAt 8 (cfgM m hO).N = G c) :
    θ_run defs (onTc (τ := τ) (main (F := F))) ⟨m, fun _ => 0, ρ⟩ (fun r => ∀ c : Dev nD,
      r.2.mem ((c.tc : Thread nD τ).loc main_v0)
        = shapeCast S2x2048x768 (G c) shapeCasts_S4096x768_S2x2048x768
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) := by
  have hval : θ_run defs (onTc (τ := τ) (main (F := F))) ⟨m, fun _ => 0, ρ⟩ (fun r => ∀ c : Dev nD,
      r.2.mem ((c.tc : Thread nD τ).loc main_v0)
        = shapeCast S2x2048x768 (G c) shapeCasts_S4096x768_S2x2048x768) :=
    (θ_run defs _ _).mono (fun _ h c => ((h c).2 main_v0 (Pipeline.mem_restRefs_of main_v0 (by decide)
        (by exact (by decide : ∀ w, Pipeline.arrRef spec0 w ≠ main_v0)))).trans
      ((tail_result m hO c).trans (by rw [hG c]; rfl))) (run_main m ρ hO)
  exact (θ_run defs _ _).mono (fun _ h c => ⟨h.1 c, h.2 c⟩) (θ_run_and hval (unchanged m ρ hO))

end Cert.KernelIdeal.Block

end
-- ==== Proof.Top.lean ====
module
public import Idealize.ShloMosaic.Lib.SortPrefix
public import Idealize.ShloMosaic.Lib.IdealHost
public import Idealize.ShloMosaic.Lib.Pointwise

/-!
The two greatest of eight extended reals, with ties broken towards the lower position.

`Top l i₁ i₂` says which two positions those are.  Sorting the positions by decreasing value finds
them, and so do two rounds of "take the maximum, take the first position that reaches it, strike it
out", which is how the kernel goes about it.
-/

@[expose] public section

noncomputable section

namespace Cert.Top

open Idealize.ShloMosaic

/-- `i₁` is the first position of the maximum, `i₂` the first position of the maximum of the others. -/
structure Top (l : Fin 8 → EReal) (i₁ i₂ : Fin 8) : Prop where
  le₁ : ∀ e, l e ≤ l i₁
  lt₁ : ∀ e, e < i₁ → l e < l i₁
  ne : i₂ ≠ i₁
  le₂ : ∀ e, e ≠ i₁ → l e ≤ l i₂
  lt₂ : ∀ e, e ≠ i₁ → e < i₂ → l e < l i₂

/-! ### By sorting -/

theorem insert_congr {ι : Type} {B C : ι → ι → Bool} (a : ι) (s : List ι) (h : ∀ b ∈ s, B b a = C b a) :
    insertBefore B a s = insertBefore C a s := by
  induction s with
  | nil => rfl
  | cons b s ih =>
    unfold insertBefore
    rw [h b (List.mem_cons_self ..), ih fun c hc => h c (List.mem_cons_of_mem _ hc)]

theorem stableSort_congr {ι : Type} {B C : ι → ι → Bool} (s : List ι)
    (h : s.Pairwise fun a b => B b a = C b a) : stableSort B s = stableSort C s := by
  induction s with
  | nil => rfl
  | cons a s ih =>
    rw [List.pairwise_cons] at h
    unfold stableSort
    rw [ih h.2]
    exact insert_congr a _ fun b hb => h.1 b ((perm_stableSort C s).mem_iff.mp hb)

/-- "Greater, or equal and earlier". -/
def before (l : Fin 8 → EReal) (a b : Fin 8) : Bool :=
  decide (l b < l a) || (decide (l a = l b) && decide (a < b))

theorem before_strict (l : Fin 8 → EReal) : StrictTotalBefore (before l) :=
  StrictTotalBefore.of_key_then_position (fun x y : EReal => decide (y < x)) l (by simp)
    (fun a b c hab hbc => by
      simp only [decide_eq_true_eq] at *
      exact lt_trans hbc hab)
    (fun a b => by
      simp only [decide_eq_true_eq]
      rcases lt_trichotomy a b with h | h | h
      · exact Or.inr (Or.inr h)
      · exact Or.inr (Or.inl h)
      · exact Or.inl h)

/-- The sort is stable, so comparing the values alone sorts as comparing values and then positions. -/
theorem sortedFrom_before (l : Fin 8 → EReal) :
    sortedFrom (fun a b => decide (l b < l a)) = sortedFrom (before l) := by
  have h : sortPositions 8 (fun a b => decide (l b < l a)) = sortPositions 8 (before l) :=
    stableSort_congr _ ((List.pairwise_lt_finRange 8).imp fun {a b} hab => by
      simp [before, not_lt_of_gt hab])
  funext k
  unfold sortedFrom
  simp only [List.get_eq_getElem, h, Fin.val_cast]

theorem le_of_before {l : Fin 8 → EReal} {a b : Fin 8} (h : before l a b = false) : l a ≤ l b := by
  simp only [before, Bool.or_eq_false_iff, decide_eq_false_iff_not, not_lt] at h
  exact h.1

theorem lt_of_before {l : Fin 8 → EReal} {a b : Fin 8} (h : before l a b = false) (hab : a < b) : l a < l b := by
  refine lt_of_le_of_ne (le_of_before h) fun he => ?_
  simp [before, he, hab] at h

/-- The first two positions of the sort by decreasing value. -/
theorem top_sorted (l : Fin 8 → EReal) :
    Top l (sortedFrom (fun a b => decide (l b < l a)) 0) (sortedFrom (fun a b => decide (l b < l a)) 1) := by
  rw [sortedFrom_before]
  have hB := before_strict l
  have hs : ∀ i j : Fin 8, i < j → before l (sortedFrom (before l) j) (sortedFrom (before l) i) = false :=
    sortedFrom_noInversion _ _ (fun a b h => hB.asymm a b h) (fun _ _ h => h) hB.negTrans
  have h0 : ∀ e, before l e (sortedFrom (before l) 0) = false := by
    intro e
    obtain ⟨j, rfl⟩ := sortedFrom_surjective (before l) e
    rcases Nat.eq_zero_or_pos j.val with h | h
    · rw [show j = 0 from Fin.ext h]; exact hB.irrefl _
    · exact hs 0 j h
  have h1 : ∀ e, e ≠ sortedFrom (before l) 0 → before l e (sortedFrom (before l) 1) = false := by
    intro e he
    obtain ⟨j, rfl⟩ := sortedFrom_surjective (before l) e
    have hj0 : j.val ≠ 0 := fun h => he (by rw [show j = 0 from Fin.ext h])
    rcases Nat.lt_or_ge 1 j.val with h | h
    · exact hs 1 j h
    · rw [show j = 1 from Fin.ext (by show j.val = 1; omega)]; exact hB.irrefl _
  exact ⟨fun e => le_of_before (h0 e), fun e he => lt_of_before (h0 e) he,
    fun h => absurd (sortedFrom_injective _ h) (by decide),
    fun e he => le_of_before (h1 e he), fun e he hl => lt_of_before (h1 e he) hl⟩

/-! ### By two rounds of maximum and first position -/

theorem fold_max {l : Fin 8 → EReal} {i : Fin 8} (h : ∀ e, l e ≤ l i) :
    (Finset.univ : Finset (Fin 8)).fold max ⊥ l = l i :=
  le_antisymm (Finset.fold_max_le _ |>.mpr ⟨bot_le, fun e _ => h e⟩)
    (Finset.le_fold_max _ |>.mpr (Or.inr ⟨i, Finset.mem_univ _, le_refl _⟩))

theorem toInt_le_minsi (x y z : BitVec 32) :
    x.toInt ≤ (IntOp.minsi y z).toInt ↔ x.toInt ≤ y.toInt ∧ x.toInt ≤ z.toInt := by
  unfold IntOp.minsi
  split
  · rename_i h
    have := BitVec.slt_iff_toInt_lt.mp h
    omega
  · rename_i h
    have h' : ¬y.toInt < z.toInt := fun h' => h (BitVec.slt_iff_toInt_lt.mpr h')
    omega

theorem toInt_ofNat_fin (e : Fin 8) : (BitVec.ofNat 32 e.val).toInt = e.val := by
  revert e; decide

/-- The least position with a property, as the kernel's minimum over words finds it. -/
theorem fold_first {p : Fin 8 → Prop} [DecidablePred p] {i : Fin 8} (hi : p i) (hlt : ∀ e, e < i → ¬p e) :
    (Finset.univ : Finset (Fin 8)).fold IntOp.minsi 2147483647#32
      (fun e => if p e then BitVec.ofNat 32 e.val else 8#32) = BitVec.ofNat 32 i.val := by
  have hr := @Finset.fold_op_rel_iff_and (Fin 8) (BitVec 32) IntOp.minsi _ _
    (fun e => if p e then BitVec.ofNat 32 e.val else 8#32) 2147483647#32 Finset.univ
    (fun x y => x.toInt ≤ y.toInt) (fun {x y z} => toInt_le_minsi x y z)
  refine BitVec.eq_of_toInt_eq (le_antisymm ?_ ?_)
  · have h := ((hr (c := _)).mp (le_refl _)).2 i (Finset.mem_univ _)
    rwa [if_pos hi] at h
  · refine (hr (c := BitVec.ofNat 32 i.val)).mpr ⟨?_, fun e _ => ?_⟩
    · rw [toInt_ofNat_fin, show (2147483647#32 : BitVec 32).toInt = 2147483647 by decide]
      have := i.isLt; omega
    · rw [toInt_ofNat_fin]
      split
      · rename_i hp
        rw [toInt_ofNat_fin]
        have : ¬e < i := fun h => hlt e h hp
        omega
      · rw [show (8#32 : BitVec 32).toInt = 8 by decide]
        have := i.isLt; omega

theorem ofNat_eq_iff (e i : Fin 8) : BitVec.ofNat 32 e.val = BitVec.ofNat 32 i.val ↔ e = i := by
  refine ⟨fun h => Fin.ext ?_, fun h => by rw [h]⟩
  have := congrArg BitVec.toInt h
  rw [toInt_ofNat_fin, toInt_ofNat_fin] at this
  omega

variable {l : Fin 8 → EReal} {i₁ i₂ : Fin 8}

/-- The first round's maximum. -/
theorem Top.max₁ (h : Top l i₁ i₂) : (Finset.univ : Finset (Fin 8)).fold max ⊥ l = l i₁ := fold_max h.le₁

/-- The first round's position. -/
theorem Top.first₁ (h : Top l i₁ i₂) :
    (Finset.univ : Finset (Fin 8)).fold IntOp.minsi 2147483647#32
      (fun e => if l e = l i₁ then BitVec.ofNat 32 e.val else 8#32) = BitVec.ofNat 32 i₁.val :=
  fold_first (p := fun e => l e = l i₁) rfl fun e he => (h.lt₁ e he).ne

/-- The values with the first position struck out. -/
def struck (l : Fin 8 → EReal) (i : Fin 8) (e : Fin 8) : EReal := if e = i then ⊥ else l e

/-- The second round's maximum. -/
theorem Top.max₂ (h : Top l i₁ i₂) : (Finset.univ : Finset (Fin 8)).fold max ⊥ (struck l i₁) = l i₂ := by
  have h2 : struck l i₁ i₂ = l i₂ := if_neg h.ne
  rw [← h2]
  refine fold_max fun e => ?_
  rw [h2]
  unfold struck
  split
  · exact bot_le
  · rename_i he; exact h.le₂ e he

/-- The second round's position. -/
theorem Top.first₂ (h : Top l i₁ i₂) (hb : l i₂ ≠ ⊥) :
    (Finset.univ : Finset (Fin 8)).fold IntOp.minsi 2147483647#32
      (fun e => if struck l i₁ e = l i₂ then BitVec.ofNat 32 e.val else 8#32) = BitVec.ofNat 32 i₂.val := by
  refine fold_first (p := fun e => struck l i₁ e = l i₂) (if_neg h.ne) fun e he hp => ?_
  unfold struck at hp
  split at hp
  · exact hb hp.symm
  · rename_i hne; exact (h.lt₂ e hne he).ne hp

end Cert.Top

end

end
-- ==== Proof.Gates.lean ====
module
public import proofs.«01_k».proof.Proof.Top

/-!
The gates: a softmax over the two greatest of eight finite logits.

`gate` is the kernel's form, one reciprocal of `1 + e^(l₂ - l₁)`.  The reference masks every other logit
to -∞ and takes the softmax of all eight; `softmax` shows that this is `gate`.  `gate_max` is the
greatest gate, from which the shared expert's weight is taken.
-/

@[expose] public section

noncomputable section

namespace Cert.Gates

open Idealize.ShloMosaic Cert.Top

/-- The exponential of the second logit less the first. -/
def lo (l : Fin 8 → EReal) (i₁ i₂ : Fin 8) : EReal := Ideal.exp (l i₂ - l i₁)

/-- The first expert's gate. -/
def top (l : Fin 8 → EReal) (i₁ i₂ : Fin 8) : EReal := Ideal.div 1 (1 + lo l i₁ i₂)

/-- The gates. -/
def gate (l : Fin 8 → EReal) (i₁ i₂ e : Fin 8) : EReal :=
  if e = i₁ then top l i₁ i₂ else if e = i₂ then lo l i₁ i₂ * top l i₁ i₂ else 0

/-- The logits with all but the two chosen ones at -∞. -/
def mask (l : Fin 8 → EReal) (i₁ i₂ e : Fin 8) : EReal := if e = i₁ ∨ e = i₂ then l e else ⊥

/-- Every logit is a real number. -/
def Finite (l : Fin 8 → EReal) : Prop := ∀ e, ∃ r : ℝ, l e = (r : EReal)

variable {l : Fin 8 → EReal} {i₁ i₂ : Fin 8}

theorem Finite.ne_bot (hl : Finite l) (e : Fin 8) : l e ≠ ⊥ := by
  obtain ⟨r, hr⟩ := hl e
  rw [hr]; exact EReal.coe_ne_bot r

theorem sub_self (hl : Finite l) (e : Fin 8) : l e - l e = 0 := by
  obtain ⟨r, hr⟩ := hl e
  rw [hr, ← EReal.coe_sub, _root_.sub_self, EReal.coe_zero]

theorem bot_sub (hl : Finite l) (e : Fin 8) : (⊥ : EReal) - l e = ⊥ := by
  obtain ⟨r, hr⟩ := hl e
  rw [hr]; exact EReal.bot_sub _

theorem exp_zero : Ideal.exp 0 = 1 := by
  show ((Real.exp 0 : ℝ) : EReal) = 1
  rw [Real.exp_zero, EReal.coe_one]

/-- The second exponential is a real number between 0 and 1. -/
theorem lo_eq (h : Top l i₁ i₂) (hl : Finite l) : ∃ q : ℝ, lo l i₁ i₂ = (q : EReal) ∧ 0 < q ∧ q ≤ 1 := by
  obtain ⟨a, ha⟩ := hl i₁
  obtain ⟨b, hb⟩ := hl i₂
  have hab : b ≤ a := EReal.coe_le_coe_iff.mp (by rw [← ha, ← hb]; exact h.le₁ i₂)
  refine ⟨Real.exp (b - a), ?_, Real.exp_pos _, Real.exp_le_one_iff.mpr (by linarith)⟩
  unfold lo
  rw [ha, hb, ← EReal.coe_sub]
  rfl

theorem denom_ne_zero (h : Top l i₁ i₂) (hl : Finite l) : 1 + lo l i₁ i₂ ≠ 0 := by
  obtain ⟨q, hq, h0, _⟩ := lo_eq h hl
  rw [hq, ← EReal.coe_one, ← EReal.coe_add, ← EReal.coe_zero]
  intro he
  have := EReal.coe_injective he
  linarith

/-- The masked logits' maximum. -/
theorem mask_max (h : Top l i₁ i₂) : (Finset.univ : Finset (Fin 8)).fold max ⊥ (mask l i₁ i₂) = l i₁ := by
  have h1 : mask l i₁ i₂ i₁ = l i₁ := if_pos (Or.inl rfl)
  rw [← h1]
  refine fold_max fun e => ?_
  rw [h1]
  unfold mask
  split
  · exact h.le₁ e
  · exact bot_le

/-- An exponential of the masked logits, one summand for each chosen expert. -/
theorem exp_mask (h : Top l i₁ i₂) (hl : Finite l) (e : Fin 8) :
    Ideal.exp (mask l i₁ i₂ e - l i₁) = (if e = i₁ then 1 else 0) + (if e = i₂ then lo l i₁ i₂ else 0) := by
  unfold mask
  by_cases h1 : e = i₁
  · subst h1
    rw [if_pos (Or.inl rfl), if_pos rfl, if_neg h.ne.symm, sub_self hl, exp_zero, add_zero]
  · by_cases h2 : e = i₂
    · subst h2
      rw [if_pos (Or.inr rfl), if_neg h1, if_pos rfl, zero_add]; rfl
    · rw [if_neg (by tauto), if_neg h1, if_neg h2, bot_sub hl, add_zero]; rfl

/-- The softmax's denominator. -/
theorem exp_mask_sum (h : Top l i₁ i₂) (hl : Finite l) :
    ∑ e : Fin 8, Ideal.exp (mask l i₁ i₂ e - l i₁) = 1 + lo l i₁ i₂ := by
  simp only [exp_mask h hl, Finset.sum_add_distrib, Finset.sum_ite_eq', Finset.mem_univ, if_true]

/-- The softmax of the masked logits is the kernel's gates. -/
theorem softmax (h : Top l i₁ i₂) (hl : Finite l) (e : Fin 8) :
    Ideal.div (Ideal.exp (mask l i₁ i₂ e - l i₁)) (∑ k : Fin 8, Ideal.exp (mask l i₁ i₂ k - l i₁))
      = gate l i₁ i₂ e := by
  rw [exp_mask_sum h hl, exp_mask h hl]
  unfold gate
  by_cases h1 : e = i₁
  · subst h1
    rw [if_pos rfl, if_neg h.ne.symm, if_pos rfl, add_zero]; rfl
  · by_cases h2 : e = i₂
    · subst h2
      rw [if_neg h1, if_pos rfl, if_neg h1, if_pos rfl, zero_add]
      exact (Ideal.mul_one_div (denom_ne_zero h hl)).symm
    · rw [if_neg h1, if_neg h2, if_neg h1, if_neg h2, add_zero]
      exact Ideal.zero_div (denom_ne_zero h hl)

/-- The first gate is a positive real number. -/
theorem top_eq (h : Top l i₁ i₂) (hl : Finite l) : ∃ p : ℝ, top l i₁ i₂ = (p : EReal) ∧ 0 < p := by
  obtain ⟨q, hq, h0, _⟩ := lo_eq h hl
  refine ⟨(1 + q)⁻¹, ?_, by positivity⟩
  have hne := denom_ne_zero h hl
  unfold top Ideal.div
  rw [if_neg hne, one_mul, hq, EReal.coe_inv, EReal.coe_add, EReal.coe_one]

/-- The greatest gate is the first. -/
theorem gate_max (h : Top l i₁ i₂) (hl : Finite l) :
    (Finset.univ : Finset (Fin 8)).fold max ⊥ (gate l i₁ i₂) = top l i₁ i₂ := by
  have h1 : gate l i₁ i₂ i₁ = top l i₁ i₂ := if_pos rfl
  rw [← h1]
  refine fold_max fun e => ?_
  rw [h1]
  obtain ⟨p, hp, hp0⟩ := top_eq h hl
  obtain ⟨q, hq, h0, hq1⟩ := lo_eq h hl
  unfold gate
  split
  · exact le_refl _
  · split
    · rw [hp, hq, ← EReal.coe_mul, EReal.coe_le_coe_iff]
      nlinarith
    · rw [hp, ← EReal.coe_zero, EReal.coe_le_coe_iff]
      exact hp0.le

/-- The exact activation, as the kernel computes it. -/
def gelu (x : EReal) : EReal :=
  Ideal.ofBits .f32 0x3F000000#32 * x * (1 + Ideal.erf (x * Ideal.ofBits .f32 0x3F3504F3#32))

/-- The reference's form of the activation, through the complementary error function. -/
theorem gelu_erfc (x : EReal) :
    Ideal.ofBits .f32 0x3F000000#32 * x * Ideal.erfc (-x * Ideal.ofBits .f32 0x3F3504F3#32) = gelu x := by
  rw [EReal.neg_mul, Ideal.erfc_neg]
  rfl

end Cert.Gates

end

end
-- ==== Proof.Spec.lean ====
module
public import proofs.«01_k».proof.Proof.Gates

/-!
One element of the result, as a function of one token, its task's row and the weights.
-/

@[expose] public section

noncomputable section

namespace Cert.Moe

open Idealize.ShloMosaic Cert.Gates

/-- The router's logits: the token against the upper half of the router's weights, the task's row
against the lower half, and the bias. -/
def logits (x t : Fin 768 → EReal) (Wg : (⟨2, ![1536, 8]⟩ : Shape).Idx → EReal) (bg : Fin 8 → EReal)
    (e : Fin 8) : EReal :=
  (∑ d : Fin 768, x d * Wg (ix2 ⟨d.val, by omega⟩ e)) + (∑ d : Fin 768, t d * Wg (ix2 ⟨768 + d.val, by omega⟩ e))
    + bg e

/-- The position of the greatest logit. -/
def first (l : Fin 8 → EReal) : Fin 8 := sortedFrom (fun a b => decide (l b < l a)) 0

/-- The position of the second greatest logit. -/
def second (l : Fin 8 → EReal) : Fin 8 := sortedFrom (fun a b => decide (l b < l a)) 1

theorem top (l : Fin 8 → EReal) : Top.Top l (first l) (second l) := Top.top_sorted l

/-- The gates of a token with logits `l`. -/
def weight (l : Fin 8 → EReal) (e : Fin 8) : EReal := gate l (first l) (second l) e

/-- The shared expert's weight. -/
def rest (l : Fin 8 → EReal) : EReal := 1 - Gates.top l (first l) (second l)

/-- Column `n` of the experts' weighted outputs for the token `x` with logits `l`. -/
def out (l : Fin 8 → EReal) (x : Fin 768 → EReal) (We : (⟨3, ![8, 768, 768]⟩ : Shape).Idx → EReal)
    (be : (⟨2, ![8, 768]⟩ : Shape).Idx → EReal) (Wu : (⟨2, ![768, 768]⟩ : Shape).Idx → EReal)
    (bu : Fin 768 → EReal) (n : Fin 768) : EReal :=
  (∑ e : Fin 8, weight l e * gelu ((∑ d : Fin 768, x d * We (ix3 e d n)) + be (ix2 e n)))
    + rest l * gelu ((∑ d : Fin 768, x d * Wu (ix2 d n)) + bu n)

/-- The row of the task table that an id names. -/
def task (w : BitVec 32) : Fin 16 := ⟨w.toNat % 16, Nat.mod_lt _ (by decide)⟩

/-- The word of a row number names that row. -/
theorem task_ofNat (i : Fin 16) : task (BitVec.ofNat 32 i.val) = i := by
  apply Fin.ext
  show (BitVec.ofNat 32 i.val).toNat % 16 = i.val
  rw [BitVec.toNat_ofNat]
  omega

/-- The layer's result at token `s` of batch row `b`, column `n`. -/
def result (x0 : (⟨3, ![2, 2048, 768]⟩ : Shape).Idx → EReal) (x1 : (⟨1, ![2]⟩ : Shape).Idx → BitVec 32)
    (x2 : (⟨2, ![16, 768]⟩ : Shape).Idx → EReal) (x3 : (⟨2, ![1536, 8]⟩ : Shape).Idx → EReal)
    (x4 : (⟨1, ![8]⟩ : Shape).Idx → EReal) (x5 : (⟨3, ![8, 768, 768]⟩ : Shape).Idx → EReal)
    (x6 : (⟨2, ![8, 768]⟩ : Shape).Idx → EReal) (x7 : (⟨2, ![768, 768]⟩ : Shape).Idx → EReal)
    (x8 : (⟨1, ![768]⟩ : Shape).Idx → EReal) (b : Fin 2) (s : Fin 2048) (n : Fin 768) : EReal :=
  out (logits (fun d => x0 (ix3 b s d)) (fun d => x2 (ix2 (task (x1 (ix1 b))) d)) x3 (fun e => x4 (ix1 e)))
    (fun d => x0 (ix3 b s d)) x5 x6 x7 (fun n => x8 (ix1 n)) n

end Cert.Moe

end

end
-- ==== Proof.KernelGates.lean ====
module
public import proofs.«01_k».proof.Proof.Block
public import proofs.«01_k».proof.Proof.Spec

/-!
What the kernel's router leaves for one token, read over the extended reals.
-/

@[expose] public section

set_option maxRecDepth 16384

noncomputable section

namespace Cert.KernelIdeal.Block

open Cert.KernelIdeal Cert.KernelIdeal.Gen Idealize.ShloMosaic

/-- The pattern of the kernel's "minus infinity". -/
theorem ofBits_bot : Ideal.ofBits .f32 0xFF800000#32 = ⊥ := by simp [Ideal.ofBits, Ideal.ieee]

/-- A word compare of two positions. -/
theorem select_pos {α : Type} (e i : Fin 8) (x y : α) :
    Scalar.select (IntOp.cmpi .eq (BitVec.ofNat 32 e.val) (BitVec.ofNat 32 i.val)) x y = if e = i then x else y := by
  by_cases h : e = i
  · subst h
    rw [if_pos rfl]
    simp [Scalar.select, IntOp.cmpi]
  · rw [if_neg h]
    have h' : (BitVec.ofNat 32 e.val == BitVec.ofNat 32 i.val) = false :=
      beq_false_of_ne fun hh => h ((Top.ofNat_eq_iff e i).mp hh)
    simp [Scalar.select, IntOp.cmpi, h']

variable (v34 : FVec Ideal S1x768 .f32) (v36 : FVec Ideal S1024x8 .f32) (v37 : FVec Ideal S768x8 .f32)
  (v41 : FVec Ideal S1x8 .f32) (r : Fin 1024)

/-- The logits of the block's token `r`. -/
def lg (e : Fin 8) : EReal := k0_pay8 v34 v36 v37 v41 (ix2 r e)

theorem lg_eq (e : Fin 8) : lg v34 v36 v37 v41 r e
    = v36 (ix2 r e) + (∑ d : Fin 768, v34 (ix2 0 d) * v37 (ix2 d e)) + v41 (ix2 0 e) := by
  unfold lg
  pointwise [k0_pay8]

variable {i₁ i₂ : Fin 8} (h : Top.Top (lg v34 v36 v37 v41 r) i₁ i₂) (hl : Gates.Finite (lg v34 v36 v37 v41 r))
include h

theorem pay9_eq : k0_pay9 v34 v36 v37 v41 (ix2 r 0) = lg v34 v36 v37 v41 r i₁ := by
  pointwise [k0_pay9]
  rw [ofBits_bot]
  exact h.max₁

theorem pay10_eq : k0_pay10 v34 v36 v37 v41 (ix2 r 0) = BitVec.ofNat 32 i₁.val := by
  pointwise [k0_pay10]
  rw [pay9_eq v34 v36 v37 v41 r h]
  exact h.first₁

theorem pay11_eq (e : Fin 8) :
    k0_pay11 v34 v36 v37 v41 (ix2 r e) = Top.struck (lg v34 v36 v37 v41 r) i₁ e := by
  pointwise [k0_pay11]
  rw [pay10_eq v34 v36 v37 v41 r h, select_pos, ofBits_bot]
  rfl

theorem pay12_eq : k0_pay12 v34 v36 v37 v41 (ix2 r 0) = lg v34 v36 v37 v41 r i₂ := by
  pointwise [k0_pay12]
  simp only [pay11_eq v34 v36 v37 v41 r h]
  rw [ofBits_bot]
  exact h.max₂

theorem pay13_eq : k0_pay13 v34 v36 v37 v41 (ix2 r 0) = Gates.lo (lg v34 v36 v37 v41 r) i₁ i₂ := by
  pointwise [k0_pay13]
  rw [pay12_eq v34 v36 v37 v41 r h, pay9_eq v34 v36 v37 v41 r h]
  rfl

theorem pay14_eq : k0_pay14 v34 v36 v37 v41 (ix2 r 0) = Gates.top (lg v34 v36 v37 v41 r) i₁ i₂ := by
  pointwise [k0_pay14]
  rw [pay13_eq v34 v36 v37 v41 r h]
  rfl

theorem pay20_eq : k0_pay20 (k0_pay14 v34 v36 v37 v41) (ix2 r 0)
    = 1 - Gates.top (lg v34 v36 v37 v41 r) i₁ i₂ := by
  pointwise [k0_pay20]
  rw [pay14_eq v34 v36 v37 v41 r h]

include hl in
/-- The kernel's gates. -/
theorem pay19_eq (e : Fin 8) :
    k0_pay19 (k0_pay15 v34 v36 v37 v41) (k0_pay16 v34 v36 v37 v41) (k0_pay17 v34 v36 v37 v41) k0_pay18 (ix2 r e)
      = Gates.gate (lg v34 v36 v37 v41 r) i₁ i₂ e := by
  pointwise [k0_pay15, k0_pay16, k0_pay17, k0_pay18, k0_pay19]
  simp only [pay11_eq v34 v36 v37 v41 r h]
  rw [pay10_eq v34 v36 v37 v41 r h, pay12_eq v34 v36 v37 v41 r h, pay13_eq v34 v36 v37 v41 r h,
    pay14_eq v34 v36 v37 v41 r h, h.first₂ (hl.ne_bot i₂), select_pos, select_pos]
  unfold Gates.gate
  by_cases h1 : e = i₁
  · subst h1
    rw [if_pos rfl, if_pos rfl, if_neg h.ne.symm, add_zero]
  · rw [if_neg h1, if_neg h1, zero_add]

end Cert.KernelIdeal.Block

end

end
-- ==== Proof.BlockValue.lean ====
module
public import proofs.«01_k».proof.Proof.KernelGates
public import Idealize.ShloMosaic.Lib.Pipeline.ValueKit.Geometry

/-!
The kernel's block, read at an element over the extended reals.
-/

@[expose] public section

set_option maxRecDepth 16384

noncomputable section

namespace Cert.KernelIdeal.Block

open Cert.KernelIdeal Cert.KernelIdeal.Gen Idealize.ShloMosaic Idealize.SL.Sem

/-! ### The staged weights -/

theorem stage_expert (x4 : Vec Ideal S8x768x768 .f32) (x6 : Vec Ideal S768x768 .f32) (e : Fin 8) (d n : Fin 768) :
    stage x4 x6 (ix3 ⟨e.val, by omega⟩ d n) = x4 (ix3 e d n) := by
  unfold stage staged
  rw [View.canon_cons_of_not_mem _ _ (fun hm => by
    have h0 : 8 ≤ e.val := ((Rect.mem_set_unit (s := S9x768x768) (off := ![8, 0, 0])
      (inb := inb_S9x768x768_S1x768x768_8_0_0)).mp hm 0).1
    omega)]
  rw [show (ix3 ⟨e.val, by omega⟩ d n : S9x768x768.Idx)
      = (Rect.unit (s := S9x768x768) ![0, 0, 0] S8x768x768.size inb_S9x768x768_S8x768x768_0_0_0).emb (ix3 e d n) from
    funext fun a => Fin.ext (by
      rw [ValueKit.rect_emb_unit_val]
      match a with
      | ⟨0, _⟩ => exact (Nat.zero_add _).symm
      | ⟨1, _⟩ => exact (Nat.zero_add _).symm
      | ⟨2, _⟩ => exact (Nat.zero_add _).symm)]
  rw [View.canon_cons_emb]
  pointwise [k0_pay4]

theorem stage_shared (x4 : Vec Ideal S8x768x768 .f32) (x6 : Vec Ideal S768x768 .f32) (d n : Fin 768) :
    stage x4 x6 (ix3 8 d n) = x6 (ix2 d n) := by
  unfold stage staged
  rw [show (ix3 8 d n : S9x768x768.Idx)
      = (Rect.unit (s := S9x768x768) ![8, 0, 0] S1x768x768.size inb_S9x768x768_S1x768x768_8_0_0).emb (ix3 0 d n) from
    funext fun a => Fin.ext (by
      rw [ValueKit.rect_emb_unit_val]
      match a with
      | ⟨0, _⟩ => rfl
      | ⟨1, _⟩ => exact (Nat.zero_add _).symm
      | ⟨2, _⟩ => exact (Nat.zero_add _).symm)]
  rw [View.canon_cons_emb]
  pointwise [k0_pay5]

/-! ### One expert's term -/

theorem term_apply (x : FVec Ideal S1024x768 .bf16) (g : FVec Ideal S1024x1 .f32) (w : Vec Ideal S1x768x256 .bf16)
    (b : Vec Ideal S1x256 .f32) (r : Fin 1024) (q : Fin 256) :
    term x g w b (ix2 r q)
      = g (ix2 r 0) * Gates.gelu ((∑ d : Fin 768, x (ix2 r d) * w (ix3 0 d q)) + b (ix2 0 q)) := by
  pointwise [term, act, dense]
  rfl

theorem wcol_apply (W : Vec Ideal S9x768x768 .bf16) (e k : ℕ) (h : e < 9 ∧ k + 256 ≤ 768) (d : Fin 768) (q : Fin 256) :
    wcol W e k h (ix3 0 d q) = W (ix3 ⟨e, h.1⟩ d ⟨k + q.val, by omega⟩) := by
  pointwise [wcol]

theorem gcol_apply (g : FVec Ideal S1024x8 .f32) (e : ℕ) (he : e < 8) (h : S1024x8.Slices ![0, e] S1024x1) (r : Fin 1024) :
    gcol g e h (ix2 r 0) = g (ix2 r ⟨e, he⟩) := by
  pointwise [gcol]

theorem bcol_apply (b : Vec Ideal S8x768 .f32) (e k : ℕ) (h : e < 8 ∧ k + 256 ≤ 768) (q : Fin 256) :
    bcol b e k h (ix2 0 q) = b (ix2 ⟨e, h.1⟩ ⟨k + q.val, by omega⟩) := by
  pointwise [bcol]

theorem ucol_apply (b : Vec Ideal S1x768 .f32) (k : ℕ) (h : k + 256 ≤ 768) (q : Fin 256) :
    ucol b k h (ix2 0 q) = b (ix2 0 ⟨k + q.val, by omega⟩) := by
  pointwise [ucol]

/-! ### A stripe and the block -/

theorem stripe_apply (x : FVec Ideal S1024x768 .bf16) (g : FVec Ideal S1024x8 .f32) (om : FVec Ideal S1024x1 .f32)
    (W : Vec Ideal S9x768x768 .bf16) (b : Vec Ideal S8x768 .f32) (bu : Vec Ideal S1x768 .f32) (k : ℕ)
    (hk : k + 256 ≤ 768) (r : Fin 1024) (q : Fin 256) :
    stripe x g om W b bu k hk (ix2 r q)
      = (∑ e : Fin 8, g (ix2 r e) * Gates.gelu
          ((∑ d : Fin 768, x (ix2 r d) * W (ix3 ⟨e.val, by omega⟩ d ⟨k + q.val, by omega⟩))
            + b (ix2 e ⟨k + q.val, by omega⟩)))
        + om (ix2 r 0) * Gates.gelu ((∑ d : Fin 768, x (ix2 r d) * W (ix3 8 d ⟨k + q.val, by omega⟩))
            + bu (ix2 0 ⟨k + q.val, by omega⟩)) := by
  pointwise [stripe]
  simp only [term_apply, wcol_apply, bcol_apply, ucol_apply]
  rw [gcol_apply g 0 (by decide), gcol_apply g 1 (by decide), gcol_apply g 2 (by decide),
    gcol_apply g 3 (by decide), gcol_apply g 4 (by decide), gcol_apply g 5 (by decide),
    gcol_apply g 6 (by decide), gcol_apply g 7 (by decide)]
  simp only [Fin.sum_univ_eight]
  rfl

/-- One column range of the block, wherever it starts. -/
theorem piece_emb (k : ℕ) (hk : k + 256 ≤ 768) (inb : ∀ a : Fin 2, (![0, k] : Fin 2 → ℕ) a + (![1024, 256] : Fin 2 → ℕ) a ≤ S1024x768.size a)
    (r : Fin 1024) (q : Fin 256) :
    (Rect.unit (s := S1024x768) ![0, k] ![1024, 256] inb).emb (ix2 r q) = ix2 r ⟨k + q.val, by omega⟩ :=
  funext fun a => Fin.ext (by
    rw [ValueKit.rect_emb_unit_val]
    match a with
    | ⟨0, _⟩ => exact Nat.zero_add _
    | ⟨1, _⟩ => rfl)

theorem piece_ix (k : ℕ) (hk : k + 256 ≤ 768) (inb : ∀ a : Fin 2, (![0, k] : Fin 2 → ℕ) a + (![1024, 256] : Fin 2 → ℕ) a ≤ S1024x768.size a)
    (r : Fin 1024) (n : Fin 768) (q : Fin 256) (hq : n.val = k + q.val) :
    (ix2 r n : S1024x768.Idx) = (Rect.unit (s := S1024x768) ![0, k] ![1024, 256] inb).emb (ix2 r q) := by
  rw [piece_emb k hk inb r q]
  exact congrArg (ix2 r) (Fin.ext hq)

theorem not_mem_piece (k : ℕ) (inb : ∀ a : Fin 2, (![0, k] : Fin 2 → ℕ) a + (![1024, 256] : Fin 2 → ℕ) a ≤ S1024x768.size a)
    (r : Fin 1024) (n : Fin 768) (h : ¬k ≤ n.val) :
    (ix2 r n : S1024x768.Idx) ∉ (Rect.unit (s := S1024x768) ![0, k] ![1024, 256] inb).set :=
  fun hm => h (Rect.mem_set_unit.mp hm 1).1

theorem canon_skip (k : ℕ) (inb : ∀ a : Fin 2, (![0, k] : Fin 2 → ℕ) a + (![1024, 256] : Fin 2 → ℕ) a ≤ S1024x768.size a)
    (r : Fin 1024) (n : Fin 768) (u : FVec Ideal S1024x256 .f32) (L : List (View.Piece (Elt Ideal) S1024x768 .f32))
    (h : ¬k ≤ n.val) :
    View.canon (⟨Rect.unit ![0, k] ![1024, 256] inb, u⟩ :: L) (ix2 r n) = View.canon L (ix2 r n) :=
  View.canon_cons_of_not_mem _ _ (not_mem_piece k inb r n h)

theorem canon_hit (k : ℕ) (hk : k + 256 ≤ 768)
    (inb : ∀ a : Fin 2, (![0, k] : Fin 2 → ℕ) a + (![1024, 256] : Fin 2 → ℕ) a ≤ S1024x768.size a)
    (r : Fin 1024) (n : Fin 768) (q : Fin 256) (hq : n.val = k + q.val) (u : FVec Ideal S1024x256 .f32)
    (L : List (View.Piece (Elt Ideal) S1024x768 .f32)) :
    View.canon (⟨Rect.unit ![0, k] ![1024, 256] inb, u⟩ :: L) (ix2 r n) = u (ix2 r q) := by
  rw [piece_ix k hk inb r n q hq]
  exact View.canon_cons_emb _ _ _ _

theorem exists_col (k n : ℕ) (h : k ≤ n) (h' : n < k + 256) : ∃ q : Fin 256, n = k + q.val :=
  ⟨⟨n - k, by omega⟩, by show n = k + (n - k); omega⟩

/-- Three column ranges written side by side: an element is an element of one of them. -/
theorem three_apply (f : ∀ k : ℕ, k + 256 ≤ 768 → FVec Ideal S1024x256 .f32) (r : Fin 1024) (n : Fin 768) :
    ∃ (k : ℕ) (hk : k + 256 ≤ 768) (q : Fin 256) (_ : n.val = k + q.val),
      View.canon (Val := Elt Ideal) (s := S1024x768) (e := .f32)
        [⟨Rect.unit ![0, 512] ![1024, 256] inb_S1024x768_S1024x256_0_512, f 512 (by decide)⟩,
         ⟨Rect.unit ![0, 256] ![1024, 256] inb_S1024x768_S1024x256_0_256, f 256 (by decide)⟩,
         ⟨Rect.unit ![0, 0] ![1024, 256] inb_S1024x768_S1024x256_0_0, f 0 (by decide)⟩] (ix2 r n)
        = f k hk (ix2 r q) := by
  have hlt : n.val < 768 := n.isLt
  by_cases h2 : 512 ≤ n.val
  · obtain ⟨q, hq⟩ := exists_col 512 n.val h2 hlt
    exact ⟨512, by decide, q, hq, canon_hit 512 (by decide) _ r n q hq _ _⟩
  · by_cases h1 : 256 ≤ n.val
    · obtain ⟨q, hq⟩ := exists_col 256 n.val h1 (Nat.lt_of_not_le h2)
      exact ⟨256, by decide, q, hq, (canon_skip 512 _ r n _ _ h2).trans
        (canon_hit 256 (by decide) _ r n q hq _ _)⟩
    · obtain ⟨q, hq⟩ := exists_col 0 n.val (Nat.zero_le _) (by rw [Nat.zero_add]; exact Nat.lt_of_not_le h1)
      exact ⟨0, by decide, q, hq, (canon_skip 512 _ r n _ _ h2).trans
        ((canon_skip 256 _ r n _ _ h1).trans (canon_hit 0 (by decide) _ r n q hq _ _))⟩

/-! ### The router's operands -/

theorem taskRow_apply (i : Fin 16) (x0 : Vec Ideal S16x768 .f32) (d : Fin 768) :
    taskRow (F := Ideal) (BitVec.ofNat 32 i.val) x0 (ix2 0 d) = x0 (ix2 i d) := by
  pointwise [taskRow, k0_pay6]
  rw [Finset.sum_eq_single i (fun k _ hk => ?_) (fun h => absurd (Finset.mem_univ _) h)]
  · simp [Scalar.select, IntOp.cmpi]
  · have h' : (BitVec.ofNat 32 k.val == BitVec.ofNat 32 i.val) = false :=
      beq_false_of_ne fun hh => hk (Fin.ext (by
        have := congrArg BitVec.toNat hh
        simp only [BitVec.toNat_ofNat] at this
        omega))
    simp [Scalar.select, IntOp.cmpi, h']

theorem tokPart_apply (x1 : Vec Ideal S1536x8 .f32) (x3 : Vec Ideal S1024x768 .f32) (r : Fin 1024) (e : Fin 8) :
    tokPart x1 x3 (ix2 r e) = ∑ d : Fin 768, x3 (ix2 r d) * x1 (ix2 ⟨d.val, by omega⟩ e) := by
  pointwise [tokPart, tok, k0_pay7, k0_pay2]

theorem lowW_apply (x1 : Vec Ideal S1536x8 .f32) (d : Fin 768) (e : Fin 8) :
    lowW x1 (ix2 d e) = x1 (ix2 ⟨768 + d.val, by omega⟩ e) := by
  pointwise [lowW]

theorem biasG_apply (x2 : Vec Ideal S1x8 .f32) (e : Fin 8) : biasG x2 (ix2 0 e) = x2 (ix2 0 e) := by
  pointwise [biasG]

theorem tok_apply (x3 : Vec Ideal S1024x768 .f32) (r : Fin 1024) (d : Fin 768) :
    (k0_pay3 (tok x3) : FVec Ideal S1024x768 .bf16) (ix2 r d) = x3 (ix2 r d) := by
  pointwise [k0_pay3, k0_pay2, tok]

/-- The router's logits, in the words of the specification. -/
theorem lg_logits (i : Fin 16) (x0 : Vec Ideal S16x768 .f32) (x1 : Vec Ideal S1536x8 .f32) (x2 : Vec Ideal S1x8 .f32)
    (x3 : Vec Ideal S1024x768 .f32) (r : Fin 1024) :
    lg (taskRow (F := Ideal) (BitVec.ofNat 32 i.val) x0) (tokPart x1 x3) (lowW x1) (biasG x2) r
      = Moe.logits (fun d => x3 (ix2 r d)) (fun d => x0 (ix2 i d)) x1 (fun e => x2 (ix2 0 e)) := by
  funext e
  rw [lg_eq, tokPart_apply, biasG_apply]
  simp only [taskRow_apply, lowW_apply]
  rfl

/-- The block's element at row `r` and column `n`, where the word read is `i`'s and the logits are finite. -/
theorem block_apply (i : Fin 16) (x0 : Vec Ideal S16x768 .f32) (x1 : Vec Ideal S1536x8 .f32) (x2 : Vec Ideal S1x8 .f32)
    (x3 : Vec Ideal S1024x768 .f32) (x4 : Vec Ideal S8x768x768 .f32) (x5 : Vec Ideal S8x768 .f32)
    (x6 : Vec Ideal S768x768 .f32) (x7 : Vec Ideal S1x768 .f32) (r : Fin 1024) (n : Fin 768)
    (hl : Gates.Finite (Moe.logits (fun d => x3 (ix2 r d)) (fun d => x0 (ix2 i d)) x1 (fun e => x2 (ix2 0 e)))) :
    block (F := Ideal) (BitVec.ofNat 32 i.val) x0 x1 x2 x3 (stage x4 x6) x5 x7 (ix2 r n)
      = Moe.out (Moe.logits (fun d => x3 (ix2 r d)) (fun d => x0 (ix2 i d)) x1 (fun e => x2 (ix2 0 e)))
          (fun d => x3 (ix2 r d)) x4 x5 x6 (fun n => x7 (ix2 0 n)) n := by
  obtain ⟨k, hk, q, hn, he⟩ := three_apply (fun k hk => stripe (k0_pay3 (tok x3))
    (gates (F := Ideal) (BitVec.ofNat 32 i.val) x0 x1 x2 x3) (omega (BitVec.ofNat 32 i.val) x0 x1 x2 x3)
    (stage x4 x6) x5 x7 k hk) r n
  refine Eq.trans he ?_
  have hn' : (⟨k + q.val, by omega⟩ : Fin 768) = n := Fin.ext hn.symm
  rw [stripe_apply]
  simp only [hn', stage_expert, stage_shared, tok_apply]
  have ht := Moe.top (Moe.logits (fun d => x3 (ix2 r d)) (fun d => x0 (ix2 i d)) x1 (fun e => x2 (ix2 0 e)))
  rw [← lg_logits] at ht hl ⊢
  unfold gates omega
  rw [pay20_eq _ _ _ _ r ht]
  simp only [pay19_eq _ _ _ _ r ht hl]
  rfl

end Cert.KernelIdeal.Block

end

end
-- ==== Proof.Pre.lean ====
/-
  What the precondition says, in plain mathematics: every task id names one of the sixteen rows of the task table, and
  every number that the gate reads (tokens, task table, gate weights, gate bias) is a real number, so that the gate's
  logits are real numbers too.
-/
module

public import proofs.«01_k».proof.Pre_gate_inputs
public import Idealize.ShloMosaic.Lib.ReduceAll
public import Idealize.ShloMosaic.Lib.Affine
public import Idealize.ShloMosaic.Lib.StableHlo.Predicate
public import Idealize.ShloMosaic.Lib.Pointwise
public import proofs.«01_k».proof.Proof.KernelGates
public import proofs.«01_k».proof.Proof.Spec

@[expose] public section

set_option maxRecDepth 16384

noncomputable section

namespace Cert.Pre

open Idealize.ShloMosaic

/-- The bits of plus infinity stand for the top of the extended reals. -/
theorem ofBits_top : Ideal.ofBits .f32 0x7F800000#32 = ⊤ := by simp [Ideal.ofBits, Ideal.ieee]

/-- A number strictly between the two infinities is real. -/
theorem real_of (x : EReal) (h : IntOp.andi (Ideal.cmp .ogt x (Ideal.ofBits .f32 0xFF800000#32))
    (Ideal.cmp .olt x (Ideal.ofBits .f32 0x7F800000#32)) = 1#1) : ∃ r : ℝ, x = r := by
  obtain ⟨h₁, h₂⟩ := IntOp.andi_eq_one.mp h
  rw [Cert.KernelIdeal.Block.ofBits_bot] at h₁
  rw [ofBits_top] at h₂
  simp only [Ideal.cmp] at h₁ h₂
  refine ⟨x.toReal, (EReal.coe_toReal ?_ ?_).symm⟩
  · rintro rfl
    simp at h₂
  · rintro rfl
    simp at h₁

/-- A word between 0 and 15 is one of the sixteen row numbers. -/
theorem id_of (w : BitVec 32) (h : IntOp.andi (IntOp.cmpi .sge w 0#32) (IntOp.cmpi .slt w 16#32) = 1#1) :
    ∃ i : Fin 16, w = BitVec.ofNat 32 i.val := by
  obtain ⟨h₁, h₂⟩ := IntOp.andi_eq_one.mp h
  rw [IntOp.cmpi_sge] at h₁
  rw [IntOp.cmpi_slt] at h₂
  have e0 : (0#32 : BitVec 32).toInt = 0 := by decide
  have e16 : (16#32 : BitVec 32).toInt = 16 := by decide
  rw [e0] at h₁
  rw [e16] at h₂
  refine ⟨⟨w.toInt.toNat, by omega⟩, ?_⟩
  apply BitVec.eq_of_toInt_eq
  rw [StableHlo.Predicate.toInt_ofNat_small _ (by show w.toInt.toNat < _; omega)]
  show w.toInt = ((w.toInt.toNat : ℕ) : ℤ)
  omega

open Cert.Pre_gate_inputs in
/-- What the precondition gives of the arrays that the gate reads. -/
structure Good (x0 : FVec Ideal S2x2048x768 .f32) (x1 : IVec S2 32) (x2 : FVec Ideal S16x768 .f32)
    (x3 : FVec Ideal S1536x8 .f32) (x4 : FVec Ideal S8 .f32) : Prop where
  ids : ∀ j, ∃ i : Fin 16, x1 j = BitVec.ofNat 32 i.val
  tokens : ∀ j, ∃ r : ℝ, x0 j = (r : EReal)
  table : ∀ j, ∃ r : ℝ, x2 j = (r : EReal)
  weights : ∀ j, ∃ r : ℝ, x3 j = (r : EReal)
  bias : ∀ j, ∃ r : ℝ, x4 j = (r : EReal)

open Cert.Pre_gate_inputs in
instance : Subsingleton S_.Idx := ⟨fun a b => funext fun k => k.elim0⟩

open Cert.Pre_gate_inputs Cert.Pre_gate_inputs.Facts in
/-- The printed predicate, decoded. -/
theorem good [Cert.Pre_gate_inputs.Facts] (x0 : FVec Ideal S2x2048x768 .f32) (x1 : IVec S2 32) (x2 : FVec Ideal S16x768 .f32)
    (x3 : FVec Ideal S1536x8 .f32) (x4 : FVec Ideal S8 .f32) (x5 : FVec Ideal S8x768x768 .f32) (x6 : FVec Ideal S8x768 .f32)
    (x7 : FVec Ideal S768x768 .f32) (x8 : FVec Ideal S768 .f32) (h : fn (F := Ideal) x0 x1 x2 x3 x4 x5 x6 x7 x8 = fun _ => 1#1) :
    Good x0 x1 x2 x3 x4 := by
  have h := congrFun h (fun k => k.elim0)
  unfold fn fn_part1 fn_part2 at h
  obtain ⟨h, h4⟩ := IntOp.andi_eq_one.mp h
  obtain ⟨h, h3⟩ := IntOp.andi_eq_one.mp h
  obtain ⟨h, h2⟩ := IntOp.andi_eq_one.mp h
  obtain ⟨h1, h0⟩ := IntOp.andi_eq_one.mp h
  refine ⟨fun j => id_of _ ?_, fun j => real_of _ ?_, fun j => real_of _ ?_, fun j => real_of _ ?_, fun j => real_of _ ?_⟩
  · exact Host.reduce_andi_all _ _ _ _ _ h1 j
  · exact Host.reduce_andi_all _ _ _ _ _ h0 j
  · exact Host.reduce_andi_all _ _ _ _ _ h2 j
  · exact Host.reduce_andi_all _ _ _ _ _ h3 j
  · exact Host.reduce_andi_all _ _ _ _ _ h4 j

/-- A finite sum of products of reals is real. -/
theorem real_sum {n : ℕ} (f g : Fin n → EReal) (hf : ∀ d, ∃ r : ℝ, f d = r) (hg : ∀ d, ∃ r : ℝ, g d = r) :
    ∃ r : ℝ, (∑ d, f d * g d) = r := by
  choose a ha using hf
  choose b hb using hg
  refine ⟨∑ d, a d * b d, ?_⟩
  rw [show ((∑ d, a d * b d : ℝ) : EReal) = ∑ d, ((a d * b d : ℝ) : EReal) from
    map_sum (⟨⟨(Real.toEReal), EReal.coe_zero⟩, EReal.coe_add⟩ : ℝ →+ EReal) _ _]
  exact Finset.sum_congr rfl fun d _ => by rw [ha, hb, EReal.coe_mul]

open Cert.Pre_gate_inputs in
/-- The logits of a token are real. -/
theorem Good.logits {x0 : FVec Ideal S2x2048x768 .f32} {x1 : IVec S2 32} {x2 : FVec Ideal S16x768 .f32}
    {x3 : FVec Ideal S1536x8 .f32} {x4 : FVec Ideal S8 .f32} (h : Good x0 x1 x2 x3 x4) (b : Fin 2) (s : Fin 2048) (i : Fin 16) :
    Gates.Finite (Moe.logits (fun d => x0 (ix3 b s d)) (fun d => x2 (ix2 i d)) x3 (fun e => x4 (ix1 e))) := by
  intro e
  obtain ⟨p, hp⟩ := real_sum (fun d : Fin 768 => x0 (ix3 b s d)) (fun d => x3 (ix2 ⟨d.val, by omega⟩ e))
    (fun _ => h.tokens _) (fun _ => h.weights _)
  obtain ⟨q, hq⟩ := real_sum (fun d : Fin 768 => x2 (ix2 i d)) (fun d => x3 (ix2 ⟨768 + d.val, by omega⟩ e))
    (fun _ => h.table _) (fun _ => h.weights _)
  obtain ⟨r, hr⟩ := h.bias (ix1 e)
  refine ⟨p + q + r, ?_⟩
  unfold Moe.logits
  rw [hp, hq, show (fun e => x4 (ix1 e)) e = (r : EReal) from hr, EReal.coe_add, EReal.coe_add]

end Cert.Pre

end
-- ==== Proof.KernelValue.lean ====
/-
  The kernel's result at every element: token `s` of batch row `b`, column `n`, holds what the mathematics of the layer
  says.  Grid point `t` computes 1024 of the flattened tokens, all of batch row `t / 2`, with the id of that row.
-/
module

public import proofs.«01_k».proof.Proof.KernelResult
public import proofs.«01_k».proof.Proof.BlockValue
public import proofs.«01_k».proof.Proof.Pre

@[expose] public section

set_option maxRecDepth 16384

noncomputable section

namespace Cert.KernelIdeal.Block

open Cert.KernelIdeal Cert.KernelIdeal.Gen Idealize.ShloMosaic Idealize.ShloMosaic.TcCoe Idealize.SL.Sem

/-- Point `i` reads the id at half its number. -/
theorem off_eq : ∀ i : grid0.Coords, k0_off1 i 0 = (i 0).val / 2 := by decide +kernel

theorem word_apply (c : Dev nD) (i : grid0.Coords) (x : (⟨S2, .i32⟩ : BufTy).Contents (Elt Ideal)) (b : Fin 2)
    (hb : b.val = (i 0).val / 2) : word (F := Ideal) c i x = x (Idealize.ShloMosaic.ix1 b) := by
  unfold word
  show x _ = x _
  congr 1
  funext a
  match a with
  | ⟨0, _⟩ =>
    apply Fin.ext
    show k0_off1 i 0 + _ = b.val
    rw [off_eq, hb]
    rfl

variable (m : (ℓ : Loc nD τ sig) → Buf (Elt Ideal) ℓ) (hO : Ok m) (c : Dev nD)

/-- The layer's result of the argument arrays. -/
abbrev res (b : Fin 2) (s : Fin 2048) (n : Fin 768) : EReal :=
  Moe.result (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8)) b s n

/-- The same over the flattened tokens. -/
def flat : FVec Ideal S4096x768 .f32 := fun k =>
  res m c ⟨(k 0).val / 2048, by have : (k 0).val < 4096 := (k 0).isLt; omega⟩
    ⟨(k 0).val % 2048, Nat.mod_lt _ (by decide)⟩ (k 1)

theorem flat_apply (b : Fin 2) (s : Fin 2048) (n : Fin 768) (k : S4096x768.Idx) (h0 : (k 0).val = b.val * 2048 + s.val)
    (h1 : (k 1).val = n.val) : flat m c k = res m c b s n := by
  unfold flat
  congr 1
  · apply Fin.ext; dsimp only; omega
  · apply Fin.ext; dsimp only; omega
  · exact Fin.ext h1

/-- The flattened tokens, read. -/
theorem tokens_apply (b : Fin 2) (s : Fin 2048) (d : Fin 768) (k : S4096x768.Idx) (h0 : (k 0).val = b.val * 2048 + s.val)
    (h1 : (k 1).val = d.val) :
    V m c main_call0_v0 k = m ((c : Thread nD τ).loc main_arg0) (Idealize.ShloMosaic.ix3 b s d) := by
  rw [V_tokens]
  refine shapeCast_apply _ _ _ _ ?_
  refine (Shape.rowMajor_val_three (d := ![2, 2048, 768]) (Idealize.ShloMosaic.ix3 b s d)).trans ?_
  rw [Shape.rowMajor_val_two]
  show (b.val * 2048 + s.val) * 768 + d.val = (k 0).val * 768 + (k 1).val
  rw [h0, h1]

theorem bias_apply (e : Fin 8) :
    V m c main_call0_v1 (Idealize.ShloMosaic.ix2 0 e) = m ((c : Thread nD τ).loc main_arg4) (Idealize.ShloMosaic.ix1 e) := by
  rw [V_bias]
  generalize m ((c : Thread nD τ).loc main_arg4) = x
  pointwise

theorem shared_apply (e : Fin 768) :
    V m c main_call0_v2 (Idealize.ShloMosaic.ix2 0 e) = m ((c : Thread nD τ).loc main_arg8) (Idealize.ShloMosaic.ix1 e) := by
  rw [V_shared]
  generalize m ((c : Thread nD τ).loc main_arg8) = x
  pointwise

/-- The block of point `t`, read at an element. -/
theorem pointBlock_apply (h : Pre.Good (m ((c : Thread nD τ).loc main_arg0)) (m ((c : Thread nD τ).loc main_arg1))
      (m ((c : Thread nD τ).loc main_arg2)) (m ((c : Thread nD τ).loc main_arg3)) (m ((c : Thread nD τ).loc main_arg4)))
    (t : Fin (cfgM m hO).N) (r : Fin 1024) (n : Fin 768) (b : Fin 2) (s : Fin 2048)
    (hb : b.val = t.val / 2) (hs : b.val * 2048 + s.val = t.val * 1024 + r.val) :
    pointBlock m hO c t (Idealize.ShloMosaic.ix2 r n) = res m c b s n := by
  obtain rfl : c = 0 := Subsingleton.elim _ _
  obtain ⟨i, hi⟩ := h.ids (Idealize.ShloMosaic.ix1 b)
  have hw : word (0 : Dev nD) (grid0.coords t) (tbl m 0) = BitVec.ofNat 32 i.val := by
    refine (word_apply 0 (grid0.coords t) (tbl m 0) b (by rw [coords_val]; exact hb)).trans ?_
    refine (congrFun (V_main_arg1 m 0) _).trans hi
  have hx : (fun d => (iblk m hO 0 3 t : Vec Ideal S1024x768 .f32) (Idealize.ShloMosaic.ix2 r d))
      = fun d : Fin 768 => m (((0 : Dev nD) : Thread nD τ).loc main_arg0) (Idealize.ShloMosaic.ix3 b s d) := by
    funext d
    rw [iblk_3 m hO 0 t (Idealize.ShloMosaic.ix2 r d)
      (Idealize.ShloMosaic.ix2 ⟨b.val * 2048 + s.val, by omega⟩ d) hs rfl]
    exact tokens_apply m 0 b s d _ rfl rfl
  have hbias : (fun e => V m 0 main_call0_v1 (Idealize.ShloMosaic.ix2 0 e))
      = fun e : Fin 8 => m (((0 : Dev nD) : Thread nD τ).loc main_arg4) (Idealize.ShloMosaic.ix1 e) :=
    funext fun e => bias_apply m 0 e
  have hsh : (fun e => V m 0 main_call0_v2 (Idealize.ShloMosaic.ix2 0 e))
      = fun e : Fin 768 => m (((0 : Dev nD) : Thread nD τ).loc main_arg8) (Idealize.ShloMosaic.ix1 e) :=
    funext fun e => shared_apply m 0 e
  unfold pointBlock
  rw [hw, V_main_arg2, V_main_arg3, V_main_arg5, V_main_arg6, V_main_arg7]
  have key := block_apply i (m (((0 : Dev nD) : Thread nD τ).loc main_arg2)) (m (((0 : Dev nD) : Thread nD τ).loc main_arg3))
    (V m 0 main_call0_v1) (iblk m hO 0 3 t) (m (((0 : Dev nD) : Thread nD τ).loc main_arg5))
    (m (((0 : Dev nD) : Thread nD τ).loc main_arg6)) (m (((0 : Dev nD) : Thread nD τ).loc main_arg7))
    (V m 0 main_call0_v2) r n
  rw [hx, hbias, hsh] at key
  refine (key (h.logits b s i)).trans ?_
  unfold res Moe.result
  rw [hi, Moe.task_ofNat]

variable (ρ : Dev nD → PrngReg)

/-- The kernel's result array. -/
def resArr : FVec Ideal S2x2048x768 .f32 := fun i => res m c (i 0) (i 1) (i 2)

/-- The flat result, split in two batches, is the result array. -/
theorem flat_cast : shapeCast S2x2048x768 (flat m c) shapeCasts_S4096x768_S2x2048x768 = resArr m c := by
  funext i
  refine (shapeCast_apply (flat m c) _ i (Idealize.ShloMosaic.ix2 ⟨(i 0).val * 2048 + (i 1).val, ?_⟩ (i 2)) ?_).trans ?_
  · have h0 : (i 0).val < 2 := (i 0).isLt
    have h1 : (i 1).val < 2048 := (i 1).isLt
    omega
  · rw [Shape.rowMajor_val_three, Shape.rowMajor_val_two]
    rfl
  · exact flat_apply m c (i 0) (i 1) (i 2) _ rfl rfl

/-- The run: under the precondition the kernel leaves the layer's result. -/
theorem run_value (h : ∀ c : Dev nD, Pre.Good (m ((c : Thread nD τ).loc main_arg0)) (m ((c : Thread nD τ).loc main_arg1))
      (m ((c : Thread nD τ).loc main_arg2)) (m ((c : Thread nD τ).loc main_arg3)) (m ((c : Thread nD τ).loc main_arg4))) :
    θ_run defs (onTc (τ := τ) (main (F := Ideal))) ⟨m, fun _ => 0, ρ⟩ (fun r => ∀ c : Dev nD,
      r.2.mem ((c.tc : Thread nD τ).loc main_v0) = resArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) := by
  have hO : Ok m := trivial
  refine (θ_run defs _ _).mono (fun _ hr c => ⟨(hr c).1.trans (flat_cast m c), (hr c).2⟩)
    (run m ρ hO (flat m) fun c => final m hO c (flat m c) fun t j k h0 h1 => ?_)
  have hN : (cfgM m hO).N = 4 := N_0
  have ht := t.isLt
  have hj : (j 0).val < 1024 := (j 0).isLt
  rw [Idealize.ShloMosaic.ValueIdx.eq_ix2 j]
  refine (pointBlock_apply m hO c (h c) t (j 0) (j 1) ⟨t.val / 2, by omega⟩
    ⟨t.val % 2 * 1024 + (j 0).val, by omega⟩ rfl (by dsimp only; omega)).trans ?_
  exact (flat_apply m c _ _ _ k (by dsimp only; omega) h1).symm

end Cert.KernelIdeal.Block

end
-- ==== Proof.RefTake.lean ====
/-
  The reference's gate logits: the row of the task table that a valid id names, and the linear map over a token beside
  that row.
-/
module

public import proofs.«01_k».proof.Proof.Gen.ReferenceIdeal.Read
public import proofs.«01_k».proof.Proof.Pre
public import Idealize.ShloMosaic.Lib.Routing.Ops

@[expose] public section

set_option maxRecDepth 16384

noncomputable section

namespace Cert.RefValue

open Cert.ReferenceIdeal Cert.ReferenceIdeal.Gen Cert.ReferenceIdeal.Read Idealize.ShloMosaic

/-- The wrapped id of a valid id is the id. -/
theorem wrapped (x1 : IVec S2 32) (i : Fin 16) (b : Fin 2) (k : Fin 1) (hi : x1 (ix1 b) = BitVec.ofNat 32 i.val) :
    val_main_call0_v5 (F := Ideal) x1 (ix2 b k) = BitVec.ofNat 32 i.val := by
  pointwise [val_main_call0_v5, val_main_call0_v4, val_main_call0_v3, val_main_call0_v1, val_main_call0_v2, val_main_call0_c, val_main_call0_v0, val_main_call0_c_0]
  rw [hi]
  exact (by decide : ∀ i : Fin 16, Scalar.select (IntOp.cmpi .slt (BitVec.ofNat 32 i.val) 0#32)
    (IntOp.addi (BitVec.ofNat 32 i.val) 16#32) (BitVec.ofNat 32 i.val) = BitVec.ofNat 32 i.val) i

/-- A valid id is in the table's range. -/
theorem in_range (x1 : IVec S2 32) (i : Fin 16) (b : Fin 2) (k : Fin 1) (hi : x1 (ix1 b) = BitVec.ofNat 32 i.val) :
    val_main_call0_v11 (F := Ideal) x1 (ix2 b k) = 1#1 := by
  pointwise [val_main_call0_v11, val_main_call0_v7, val_main_call0_v10, val_main_call0_v6, val_main_call0_c_2,
    val_main_call0_v9, val_main_call0_v8, val_main_call0_c_1]
  rw [wrapped x1 i b k hi]
  exact (by decide : ∀ i : Fin 16, IntOp.andi (IntOp.cmpi .sge (BitVec.ofNat 32 i.val) 0#32)
    (IntOp.cmpi .sle (BitVec.ofNat 32 i.val) 15#32) = 1#1) i

/-- The table's row that a valid id names. -/
theorem row (x1 : IVec S2 32) (x2 : FVec Ideal S16x768 .f32) (i : Fin 16) (b : Fin 2) (d : Fin 768)
    (hi : x1 (ix1 b) = BitVec.ofNat 32 i.val) :
    val_main_call0_v13 (F := Ideal) x1 x2 (ix2 b d) = x2 (ix2 i d) :=
  Routing.gather_row _ rfl rfl rfl rfl rfl _ _ _ _ _ (wrapped x1 i b 0 hi) (by decide)

/-- The same after the range check. -/
theorem taken (x1 : IVec S2 32) (x2 : FVec Ideal S16x768 .f32) (h : ∀ j, ∃ i : Fin 16, x1 j = BitVec.ofNat 32 i.val)
    (b : Fin 2) (d : Fin 768) :
    val_main_v0 (F := Ideal) x1 x2 (ix2 b d) = x2 (ix2 (Moe.task (x1 (ix1 b))) d) := by
  obtain ⟨i, hi⟩ := h (ix1 b)
  have hall : val_main_call0_v12 (F := Ideal) x1 (ix1 b) = 1#1 :=
    Host.reduce_andi_one _ _ _ _ _ rfl fun j => by
      rw [ValueIdx.eq_ix2 j]
      obtain ⟨k, hk⟩ := h (ix1 (j 0))
      exact in_range x1 k (j 0) (j 1) hk
  pointwise [val_main_v0, val_main_call0_v14]
  rw [hall, row x1 x2 i b d hi, hi, Moe.task_ofNat]
  rfl

/-- The logits of a token. -/
theorem logits_apply (x0 : FVec Ideal S2x2048x768 .f32) (x1 : IVec S2 32) (x2 : FVec Ideal S16x768 .f32)
    (x3 : FVec Ideal S1536x8 .f32) (x4 : FVec Ideal S8 .f32)
    (h : ∀ j, ∃ i : Fin 16, x1 j = BitVec.ofNat 32 i.val) (b : Fin 2) (s : Fin 2048) (e : Fin 8) :
    val_main_v7 (F := Ideal) x0 x1 x2 x3 x4 (ix3 b s e)
      = Moe.logits (fun d => x0 (ix3 b s d)) (fun d => x2 (ix2 (Moe.task (x1 (ix1 b))) d)) x3 (fun e => x4 (ix1 e)) e := by
  have ht : ∀ d, val_main_v2 (F := Ideal) x1 x2 (ix3 b s d) = x2 (ix2 (Moe.task (x1 (ix1 b))) d) := fun d => by
    pointwise [val_main_v2, val_main_v1]
    exact taken x1 x2 h b d
  pointwise [val_main_v7, val_main_v4, val_main_v3, val_main_v6, val_main_v5]
  simp only [ht]
  rfl

end Cert.RefValue

end
-- ==== Proof.RefTop.lean ====
/-
  The reference's two greatest logits and their positions, read for one token.
-/
module

public import proofs.«01_k».proof.Proof.Gen.ReferenceIdeal.Read
public import proofs.«01_k».proof.Proof.Spec
public import Idealize.ShloMosaic.Lib.Pointwise

@[expose] public section

set_option maxRecDepth 16384

noncomputable section

namespace Cert.RefValue

open Cert.ReferenceIdeal Cert.ReferenceIdeal.Gen Cert.ReferenceIdeal.Read Idealize.ShloMosaic

/-- Position `k` of the sort of a token's logits by decreasing value. -/
def nth (l : Fin 8 → EReal) (k : Fin 2) : Fin 8 := sortedFrom (fun a b => decide (l b < l a)) ⟨k.val, by omega⟩

/-- The position of rank 0 is the first choice. -/
theorem nth_zero (l : Fin 8 → EReal) : nth l 0 = Moe.first l := rfl
/-- The position of rank 1 is the second choice. -/
theorem nth_one (l : Fin 8 → EReal) : nth l 1 = Moe.second l := rfl

/-- The reference's order of two logits. -/
theorem before_eq (x y : EReal) : (FloatOps.cmpfTotal (F := Ideal) (φ := .f32) .gt x y == 1#1) = decide (y < x) := by
  show (BitVec.ofBool (decide (y < x)) == 1#1) = _
  cases decide (y < x) <;> rfl

theorem along_eq (b : Fin 2) (s : Fin 2048) (a k : Fin 8) :
    (ix3 b s a : S2x2048x8.Idx).along 2 k = ix3 b s k := by
  funext d
  match d with
  | ⟨0, _⟩ => rfl
  | ⟨1, _⟩ => rfl
  | ⟨2, _⟩ => rfl

variable (x : FVec Ideal S2x2048x8 .f32) (b : Fin 2) (s : Fin 2048) (k : Fin 2)

/-- The stable sort of two arrays along the last axis, read at an index: both at one sorted position. -/
theorem sort_apply {α β : Type} (gt : α → α → BitVec 1) (x : S2x2048x8.Idx → α) (y : S2x2048x8.Idx → β) (a : Fin 8) :
    (Host.sort2 S2x2048x8 2 (fun l r => gt l.1 r.1) x y).1 (ix3 b s a)
        = x (ix3 b s (sortedFrom (fun p q => gt (x (ix3 b s p)) (x (ix3 b s q)) == 1#1) a))
    ∧ (Host.sort2 S2x2048x8 2 (fun l r => gt l.1 r.1) x y).2 (ix3 b s a)
        = y (ix3 b s (sortedFrom (fun p q => gt (x (ix3 b s p)) (x (ix3 b s q)) == 1#1) a)) := by
  unfold Host.sort2
  rw [dif_pos (by decide)]
  have hπ : sortedFrom (fun p q : Fin 8 => gt (x ((ix3 b s a : S2x2048x8.Idx).along 2 p)) (x ((ix3 b s a : S2x2048x8.Idx).along 2 q)) == 1#1) a
      = sortedFrom (fun p q => gt (x (ix3 b s p)) (x (ix3 b s q)) == 1#1) a := by
    simp only [along_eq]
  refine ⟨?_, ?_⟩
  · refine Eq.trans ?_ (congrArg (fun k => x (ix3 b s k)) hπ)
    exact congrArg x (along_eq b s a _)
  · refine Eq.trans ?_ (congrArg (fun k => y (ix3 b s k)) hπ)
    exact congrArg y (along_eq b s a _)

/-- The position that the sort leaves at rank `k` of a row. -/
theorem sorted_eq (k : Fin 2) :
    sortedFrom (fun p q => FloatOps.cmpfTotal (F := Ideal) (φ := .f32) .gt (x (ix3 b s p)) (x (ix3 b s q)) == 1#1) (⟨k.val, by omega⟩ : Fin 8)
      = nth (fun e => x (ix3 b s e)) k := by
  simp only [before_eq]
  rfl

/-- The value that the reference keeps at rank `k`: the logit at that position. -/
theorem values_apply :
    (Host.topK S2x2048x2 2 (FloatOps.cmpfTotal (F := Ideal) (φ := .f32) .gt) x sliceFits_S2x2048x8_S2x2048x2).1 (ix3 b s k)
      = x (ix3 b s (nth (fun e => x (ix3 b s e)) k)) := by
  unfold Host.topK
  dsimp only
  generalize (fun i : S2x2048x8.Idx => if hd : 2 < S2x2048x8.rank then iotaInDim S2x2048x8 32 ⟨2, hd⟩ i else 0#32) = y
  have h := (sort_apply b s (FloatOps.cmpfTotal (F := Ideal) (φ := .f32) .gt) x y ⟨k.val, by omega⟩).1
  rw [sorted_eq] at h
  refine Eq.trans ?_ h
  generalize (Host.sort2 S2x2048x8 2 (fun l r => FloatOps.cmpfTotal (F := Ideal) (φ := .f32) .gt l.1 r.1) x y).1 = z
  pointwise

/-- The index that the reference keeps at rank `k`: that position, as a word. -/
theorem indices_apply :
    (Host.topK S2x2048x2 2 (FloatOps.cmpfTotal (F := Ideal) (φ := .f32) .gt) x sliceFits_S2x2048x8_S2x2048x2).2 (ix3 b s k)
      = BitVec.ofNat 32 (nth (fun e => x (ix3 b s e)) k).val := by
  unfold Host.topK
  dsimp only
  have h := (sort_apply b s (FloatOps.cmpfTotal (F := Ideal) (φ := .f32) .gt) x
    (fun i : S2x2048x8.Idx => if hd : 2 < S2x2048x8.rank then iotaInDim S2x2048x8 32 ⟨2, hd⟩ i else 0#32) ⟨k.val, by omega⟩).2
  rw [sorted_eq, dif_pos (by decide)] at h
  refine Eq.trans ?_ (h.trans ?_)
  · generalize (Host.sort2 S2x2048x8 2 (fun l r => FloatOps.cmpfTotal (F := Ideal) (φ := .f32) .gt l.1 r.1) x _).2 = z
    pointwise
  · rfl

end Cert.RefValue

end
-- ==== Proof.RefGates.lean ====
/-
  The reference's gates for one token: the logits kept at the two greatest positions, their softmax, and the largest
  gate.
-/
module

public import proofs.«01_k».proof.Proof.RefTop
public import proofs.«01_k».proof.Proof.KernelGates
public import Idealize.ShloMosaic.Lib.StableHlo.Predicate

@[expose] public section

set_option maxRecDepth 16384

noncomputable section

namespace Cert.RefValue

open Cert.ReferenceIdeal Cert.ReferenceIdeal.Gen Cert.ReferenceIdeal.Read Idealize.ShloMosaic
open Cert.KernelIdeal.Block (ofBits_bot)

variable (x0 : FVec Ideal S2x2048x768 .f32) (x1 : IVec S2 32) (x2 : FVec Ideal S16x768 .f32)
  (x3 : FVec Ideal S1536x8 .f32) (x4 : FVec Ideal S8 .f32) (b : Fin 2) (s : Fin 2048)

/-- The kept logits, from the one-hot rows: where neither position is `e` the count is zero. -/
theorem kept {l : Fin 8 → EReal} {i₁ i₂ : Fin 8} (h : i₂ ≠ i₁) (e : Fin 8) (z : EReal) (hz : z = ⊥) :
    (if 0 < (if e = i₁ then (1 : EReal) else 0) + (if e = i₂ then 1 else 0) then
      (if e = i₁ then (1 : EReal) else 0) * l i₁ + (if e = i₂ then 1 else 0) * l i₂ else z) = Gates.mask l i₁ i₂ e := by
  unfold Gates.mask
  by_cases h1 : e = i₁
  · subst h1
    simp [h.symm]
  · by_cases h2 : e = i₂
    · subst h2
      simp [h]
    · simp [h1, h2, hz]

/-- The token's logits. -/
abbrev lr (e : Fin 8) : EReal := val_main_v7 (F := Ideal) x0 x1 x2 x3 x4 (ix3 b s e)

/-- A word compare of two positions, as a number. -/
theorem bit_apply (i e : Fin 8) : FloatOps.uitofp (F := Ideal) .f32 (IntOp.cmpi .eq (BitVec.ofNat 32 i.val) (BitVec.ofNat 32 e.val))
    = if e = i then (1 : EReal) else 0 := by
  by_cases h : e = i
  · subst h
    rw [if_pos rfl, StableHlo.Predicate.cmpi_eq_iff.mpr rfl]
    show (((1#1 : BitVec 1).toNat : ℝ) : EReal) = 1
    norm_num
  · rw [if_neg h, ValueIdx.eq_zero_of_ne_one fun hh => h ((Top.ofNat_eq_iff e i).mp (StableHlo.Predicate.cmpi_eq_iff.mp hh).symm)]
    show (((0#1 : BitVec 1).toNat : ℝ) : EReal) = 0
    norm_num

/-- One entry of the one-hot rows of the kept positions. -/
theorem hot_apply (k : Fin 2) (e : Fin 8) :
    val_main_v8 (F := Ideal) x0 x1 x2 x3 x4 (ix4 b s k e) = if e = nth (lr x0 x1 x2 x3 x4 b s) k then 1 else 0 := by
  pointwise [val_main_v8, val_main_call1_v4, val_main_call1_v2, val_main_call1_v0, val_main_call1_v3, val_main_call1_v1]
  rw [show val_main_indices (F := Ideal) x0 x1 x2 x3 x4 (ix3 b s k) = _ from indices_apply _ b s k]
  exact bit_apply _ e

/-- The kept logit beside each entry. -/
theorem value_apply (k : Fin 2) (e : Fin 8) :
    val_main_v10 (F := Ideal) x0 x1 x2 x3 x4 (ix4 b s k e) = lr x0 x1 x2 x3 x4 b s (nth (lr x0 x1 x2 x3 x4 b s) k) := by
  pointwise [val_main_v10, val_main_v9]
  exact values_apply _ b s k

/-- The kept logits, minus infinity elsewhere. -/
theorem kept_apply (e : Fin 8) :
    val_main_v16 (F := Ideal) x0 x1 x2 x3 x4 (ix3 b s e)
      = Gates.mask (lr x0 x1 x2 x3 x4 b s) (Moe.first (lr x0 x1 x2 x3 x4 b s)) (Moe.second (lr x0 x1 x2 x3 x4 b s)) e := by
  pointwise [val_main_v16, val_main_v15, val_main_v13, val_main_v12, val_main_v11, val_main_v14, val_main_cst, val_main_cst_0, val_main_cst_1, val_main_call2_v1, val_main_call2_v0, val_main_cst_2]
  simp only [hot_apply, value_apply, Fin.sum_univ_two]
  exact kept (l := lr x0 x1 x2 x3 x4 b s) (Moe.top _).ne e _ ofBits_bot

/-- The gates are the softmax of the kept logits. -/
theorem gates_apply (hl : Gates.Finite (lr x0 x1 x2 x3 x4 b s)) (e : Fin 8) :
    val_main_v27 (F := Ideal) x0 x1 x2 x3 x4 (ix3 b s e) = Moe.weight (lr x0 x1 x2 x3 x4 b s) e := by
  have hm : val_main_v17 (F := Ideal) x0 x1 x2 x3 x4 (ix2 b s) = lr x0 x1 x2 x3 x4 b s (Moe.first (lr x0 x1 x2 x3 x4 b s)) := by
    pointwise [val_main_v17, val_main_cst_3]
    simp only [kept_apply, ofBits_bot]
    exact Gates.mask_max (Moe.top _)
  pointwise [val_main_v27, val_main_v26, val_main_v25, val_main_v24, val_main_v23, val_main_v22, val_main_v21, val_main_v20, val_main_v19, val_main_v18, val_main_cst_4, val_main_cst_5]
  rw [hm, ofBits_bot, max_eq_right bot_le]
  simp only [kept_apply]
  exact Gates.softmax (Moe.top _) hl e

/-- The shared expert's weight is one minus the largest gate. -/
theorem rest_apply (hl : Gates.Finite (lr x0 x1 x2 x3 x4 b s)) (n : Fin 768) :
    val_main_v58 (F := Ideal) x0 x1 x2 x3 x4 (ix3 b s n) = Moe.rest (lr x0 x1 x2 x3 x4 b s) := by
  pointwise [val_main_v58, val_main_v57, val_main_v56, val_main_v55, val_main_v54, val_main_cst_11, val_main_cst_12]
  simp only [gates_apply x0 x1 x2 x3 x4 b s hl, ofBits_bot]
  exact congrArg (fun z => 1 - z) (Gates.gate_max (Moe.top _) hl)

end Cert.RefValue

end
-- ==== Proof.RefValue.lean ====
/-
  The reference's result at every element is the layer's result.
-/
module

public import proofs.«01_k».proof.Proof.RefTake
public import proofs.«01_k».proof.Proof.RefGates

@[expose] public section

set_option maxRecDepth 16384

noncomputable section

namespace Cert.RefValue

open Cert.ReferenceIdeal Cert.ReferenceIdeal.Gen Cert.ReferenceIdeal.Read Idealize.ShloMosaic

variable (x0 : FVec Ideal S2x2048x768 .f32) (x1 : IVec S2 32) (x2 : FVec Ideal S16x768 .f32)
  (x3 : FVec Ideal S1536x8 .f32) (x4 : FVec Ideal S8 .f32) (x5 : FVec Ideal S8x768x768 .f32) (x6 : FVec Ideal S8x768 .f32)
  (x7 : FVec Ideal S768x768 .f32) (x8 : FVec Ideal S768 .f32) (b : Fin 2) (s : Fin 2048) (n : Fin 768)

/-- One expert's output. -/
theorem expert_apply (e : Fin 8) : val_main_v38 (F := Ideal) x0 x5 x6 (ix4 b s e n)
    = Gates.gelu ((∑ d : Fin 768, x0 (ix3 b s d) * x5 (ix3 e d n)) + x6 (ix2 e n)) := by
  pointwise [val_main_v38, val_main_v33, val_main_v37, val_main_v36, val_main_v34, val_main_v35, val_main_v32, val_main_cst_6,
    val_main_cst_7, val_main_v31, val_main_v28, val_main_v30, val_main_v29]
  exact Gates.gelu_erfc _

/-- The shared expert's output. -/
theorem shared_apply : val_main_v53 (F := Ideal) x0 x7 x8 (ix3 b s n)
    = Gates.gelu ((∑ d : Fin 768, x0 (ix3 b s d) * x7 (ix2 d n)) + x8 (ix1 n)) := by
  pointwise [val_main_v53, val_main_v52, val_main_v51, val_main_v50, val_main_v49, val_main_v48, val_main_v47, val_main_cst_9,
    val_main_cst_10, val_main_v46, val_main_v45, val_main_v44, val_main_v43]
  exact Gates.gelu_erfc _

/-- The reference, read. -/
theorem value (h : Pre.Good x0 x1 x2 x3 x4) :
    val_main_v60 (F := Ideal) x0 x1 x2 x3 x4 x5 x6 x7 x8 (ix3 b s n) = Moe.result x0 x1 x2 x3 x4 x5 x6 x7 x8 b s n := by
  have hlr : lr x0 x1 x2 x3 x4 b s
      = Moe.logits (fun d => x0 (ix3 b s d)) (fun d => x2 (ix2 (Moe.task (x1 (ix1 b))) d)) x3 (fun e => x4 (ix1 e)) :=
    funext fun e => logits_apply x0 x1 x2 x3 x4 h.ids b s e
  have hl : Gates.Finite (lr x0 x1 x2 x3 x4 b s) := by rw [hlr]; exact h.logits b s _
  pointwise [val_main_v60, val_main_v59, val_main_v42, val_main_v41, val_main_v40, val_main_v39, val_main_cst_8]
  simp only [expert_apply, shared_apply, gates_apply x0 x1 x2 x3 x4 b s hl, rest_apply x0 x1 x2 x3 x4 b s hl]
  rw [hlr]
  rfl

end Cert.RefValue

end
-- ==== Proof.lean ====
/-
  The certificate of the task-routed expert layer.

  The frames are the generated ones: both kernels, and the reference, run to an end, leave their arguments unchanged and
  every semaphore counter at zero.  The value claim reads both sides at an element: the kernel by
  `Block.run_value` (Proof/KernelValue.lean), the reference by `RefValue.value` (Proof/RefValue.lean), and both are
  `Moe.result` (Proof/Spec.lean).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_gate_inputs
public import proofs.«01_k».proof.Proof.KernelValue
public import proofs.«01_k».proof.Proof.RefValue
public import Idealize.ShloMosaic.Adequacy
public import Idealize.ShloMosaic.Init

@[expose] public section

noncomputable section

namespace Cert.Proof

open Idealize.ShloMosaic Idealize.SL.Sem

/-- The reference runs and leaves its arguments unchanged; it declares no semaphore. -/
theorem frame_reference : Cert.quiescent_ReferenceIdeal := fun m ρ _ =>
  (θ_run Cert.ReferenceIdeal.defs _ _).mono
    (fun r h => ⟨fun c => (h c).2, sem_eq_zero_of_no_sems (by decide) r.2⟩) (Cert.ReferenceIdeal.Value.run m ρ)

/-- What the reference leaves, from memories that agree with the kernel's on the arguments. -/
theorem reference_result (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h : Cert.Pre.Good (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)))
    (e : (m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))) :
    Cert.ReferenceIdeal.Value.res_main_v60 (F := Ideal) m' c = Cert.KernelIdeal.Block.resArr m c := by
  obtain ⟨e0, e1, e2, e3, e4, e5, e6, e7, e8⟩ := e
  rw [Cert.ReferenceIdeal.Read.val_main_v60_eq, e0, e1, e2, e3, e4, e5, e6, e7, e8]
  funext i
  refine (congrArg _ (ValueIdx.eq_ix3 i)).trans ?_
  exact Cert.RefValue.value _ _ _ _ _ _ _ _ _ (i 0) (i 1) (i 2) h

/-- Kernel and reference leave the same result. -/
theorem value : Cert.algebraic_KernelIdeal_ReferenceIdeal_pre_gate_inputs := by
  intro m ρ m' ρ' hpre hagree
  have good := fun c => Cert.Pre.good _ _ _ _ _ _ _ _ _ (hpre c)
  refine ⟨Cert.KernelIdeal.Block.resArr m, Cert.KernelIdeal.Block.run_value m ρ good, ?_⟩
  exact (θ_run Cert.ReferenceIdeal.defs _ _).mono
    (fun r h c => ⟨(h c).1.trans (reference_result m m' c (good c) (hagree c)), (h c).2⟩)
    (Cert.ReferenceIdeal.Value.run m' ρ')

/-- The whole certificate: the generated facts, the frames, the idealization and the value claim. -/
theorem claim : Cert.Claim :=
  ⟨Cert.Kernel.Gen.facts, Cert.KernelIdeal.Gen.facts, Cert.ReferenceIdeal.Gen.facts, Cert.Pre_gate_inputs.Gen.facts,
    fun m ρ _ => Cert.Kernel.Gen.frame m ρ trivial,
    fun m ρ _ => Cert.KernelIdeal.Gen.frame m ρ trivial,
    fun m ρ _ => Cert.KernelIdeal.Gen.frame m ρ trivial,
    frame_reference,
    fun m ρ _ => frame_reference m ρ trivial,
    trivial,
    value⟩

end Cert.Proof

end
